-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v102_0)) (v1 : (c : Dev Cert.KernelIdeal.nD) → Buf (Elt Ideal) ((c.tc : Thread Cert.KernelIdeal.nD Cert.KernelIdeal.τ).loc Cert.KernelIdeal.main_v102_1)) (v2 : (c : Dev Cert.KernelIdeal.nD) → Buf (Elt Ideal) ((c.tc : Thread Cert.KernelIdeal.nD Cert.KernelIdeal.τ).loc Cert.KernelIdeal.main_v102_2)) (v3 : (c : Dev Cert.KernelIdeal.nD) → Buf (Elt Ideal) ((c.tc : Thread Cert.KernelIdeal.nD Cert.KernelIdeal.τ).loc Cert.KernelIdeal.main_v102_3)) (v4 : (c : Dev Cert.KernelIdeal.nD) → Buf (Elt Ideal) ((c.tc : Thread Cert.KernelIdeal.nD Cert.KernelIdeal.τ).loc Cert.KernelIdeal.main_v102_4)) (v5 : (c : Dev Cert.KernelIdeal.nD) → Buf (Elt Ideal) ((c.tc : Thread Cert.KernelIdeal.nD Cert.KernelIdeal.τ).loc Cert.KernelIdeal.main_v102_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102_0) = v0 c
          ∧ r.2.mem ((c.tc : Thread Cert.KernelIdeal.nD Cert.KernelIdeal.τ).loc Cert.KernelIdeal.main_v102_1) = v1 c
          ∧ r.2.mem ((c.tc : Thread Cert.KernelIdeal.nD Cert.KernelIdeal.τ).loc Cert.KernelIdeal.main_v102_2) = v2 c
          ∧ r.2.mem ((c.tc : Thread Cert.KernelIdeal.nD Cert.KernelIdeal.τ).loc Cert.KernelIdeal.main_v102_3) = v3 c
          ∧ r.2.mem ((c.tc : Thread Cert.KernelIdeal.nD Cert.KernelIdeal.τ).loc Cert.KernelIdeal.main_v102_4) = v4 c
          ∧ r.2.mem ((c.tc : Thread Cert.KernelIdeal.nD Cert.KernelIdeal.τ).loc Cert.KernelIdeal.main_v102_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_v351) = v1 c
          ∧ r.2.mem ((c.tc : Thread Cert.ReferenceIdeal.nD Cert.ReferenceIdeal.τ).loc Cert.ReferenceIdeal.main_v353) = v2 c
          ∧ r.2.mem ((c.tc : Thread Cert.ReferenceIdeal.nD Cert.ReferenceIdeal.τ).loc Cert.ReferenceIdeal.main_v355) = v3 c
          ∧ r.2.mem ((c.tc : Thread Cert.ReferenceIdeal.nD Cert.ReferenceIdeal.τ).loc Cert.ReferenceIdeal.main_v357) = v4 c
          ∧ r.2.mem ((c.tc : Thread Cert.ReferenceIdeal.nD Cert.ReferenceIdeal.τ).loc Cert.ReferenceIdeal.main_v359) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v45_0)) (v1 : (c : Dev Cert.Kernel3Ideal.nD) → Buf (Elt Ideal) ((c.tc : Thread Cert.Kernel3Ideal.nD Cert.Kernel3Ideal.τ).loc Cert.Kernel3Ideal.main_v45_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_0) = v0 c
          ∧ r.2.mem ((c.tc : Thread Cert.Kernel3Ideal.nD Cert.Kernel3Ideal.τ).loc Cert.Kernel3Ideal.main_v45_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32x2048x1024 : Shape := ⟨3, ![32, 2048, 1024]⟩
abbrev S1024 : Shape := ⟨1, ![1024]⟩
abbrev S1024x3096 : Shape := ⟨2, ![1024, 3096]⟩
abbrev S3x256 : Shape := ⟨2, ![3, 256]⟩
abbrev S64 : Shape := ⟨1, ![64]⟩
abbrev S2 : Shape := ⟨1, ![2]⟩
abbrev S256x256 : Shape := ⟨2, ![256, 256]⟩
abbrev S2048 : Shape := ⟨1, ![2048]⟩
abbrev S_ : Shape := ⟨0, ![]⟩
abbrev S31 : Shape := ⟨1, ![31]⟩
abbrev S1 : Shape := ⟨1, ![1]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S1x2 : Shape := ⟨2, ![1, 2]⟩
abbrev S32x2 : Shape := ⟨2, ![32, 2]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S1x64 : Shape := ⟨2, ![1, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S4x64 : Shape := ⟨2, ![4, 64]⟩
abbrev S256 : Shape := ⟨1, ![256]⟩
abbrev S256x1 : Shape := ⟨2, ![256, 1]⟩
abbrev S65536x1024 : Shape := ⟨2, ![65536, 1024]⟩
abbrev S1024x1280 : Shape := ⟨2, ![1024, 1280]⟩
abbrev S1024x24 : Shape := ⟨2, ![1024, 24]⟩
abbrev S1024x128 : Shape := ⟨2, ![1024, 128]⟩
abbrev S1024x1792 : Shape := ⟨2, ![1024, 1792]⟩
abbrev S1024x3200 : Shape := ⟨2, ![1024, 3200]⟩
abbrev S1x256 : Shape := ⟨2, ![1, 256]⟩
abbrev S2x64 : Shape := ⟨2, ![2, 64]⟩
abbrev S1x1024 : Shape := ⟨2, ![1, 1024]⟩
abbrev S1x1x1x128 : Shape := ⟨4, ![1, 1, 1, 128]⟩
abbrev S1x1x2x128 : Shape := ⟨4, ![1, 1, 2, 128]⟩
abbrev S65536x512 : Shape := ⟨2, ![65536, 512]⟩
abbrev S4096x2048 : Shape := ⟨2, ![4096, 2048]⟩
abbrev S65536x128 : Shape := ⟨2, ![65536, 128]⟩
abbrev S1024x1024 : Shape := ⟨2, ![1024, 1024]⟩
abbrev S1024x256 : Shape := ⟨2, ![1024, 256]⟩
abbrev S1024x512 : Shape := ⟨2, ![1024, 512]⟩
abbrev S64x2048 : Shape := ⟨2, ![64, 2048]⟩
abbrev S8x256 : Shape := ⟨2, ![8, 256]⟩
abbrev S1024x1 : Shape := ⟨2, ![1024, 1]⟩
abbrev S64x128 : Shape := ⟨2, ![64, 128]⟩

abbrev nBuf : Space → Nat
  | .hbm => 155
  | .vmem => 33
  | .smem => 0
  | _ => 0

abbrev hbmTy0_0 (i : Nat) : BufTy := match i % 128 with
  | 0 => ⟨S32x2048x1024, .f32⟩
  | 1 => ⟨S1024, .f32⟩
  | 2 => ⟨S1024x3096, .f32⟩
  | 3 => ⟨S3x256, .f32⟩
  | 4 => ⟨S64, .f32⟩
  | 5 => ⟨S64, .f32⟩
  | 6 => ⟨S2, .f32⟩
  | 7 => ⟨S256x256, .f32⟩
  | 8 => ⟨S256x256, .f32⟩
  | 9 => ⟨S2048, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S31, .f32⟩
  | 18 => ⟨S_, .f32⟩
  | 19 => ⟨S31, .f32⟩
  | 20 => ⟨S31, .f32⟩
  | 21 => ⟨S1, .f32⟩
  | 22 => ⟨S_, .f32⟩
  | 23 => ⟨S31, .f32⟩
  | 24 => ⟨S31, .f32⟩
  | 25 => ⟨S31, .f32⟩
  | 26 => ⟨S31, .f32⟩
  | 27 => ⟨S1, .f32⟩
  | 28 => ⟨S31, .f32⟩
  | 29 => ⟨S31, .f32⟩
  | 30 => ⟨S31, .f32⟩
  | 31 => ⟨S1, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S2048x1, .f32⟩
  | 40 => ⟨S1x32, .f32⟩
  | 41 => ⟨S2048x32, .f32⟩
  | 42 => ⟨S2048x32, .f32⟩
  | 43 => ⟨S2048x32, .f32⟩
  | 44 => ⟨S2048x32x2, .f32⟩
  | 45 => ⟨S2048x64, .f32⟩
  | 46 => ⟨S1x2, .f32⟩
  | 47 => ⟨S32x2, .f32⟩
  | 48 => ⟨S64, .f32⟩
  | 49 => ⟨S2048x64, .f32⟩
  | 50 => ⟨S1x2048x1x64, .f32⟩
  | 51 => ⟨S1x2048x4x64, .f32⟩
  | 52 => ⟨S2048x256, .f32⟩
  | 53 => ⟨S2048x64, .f32⟩
  | 54 => ⟨S1x64, .f32⟩
  | 55 => ⟨S2048x64, .f32⟩
  | 56 => ⟨S2048x64, .f32⟩
  | 57 => ⟨S1x2048x1x64, .f32⟩
  | 58 => ⟨S1x2048x4x64, .f32⟩
  | 59 => ⟨S2048x256, .f32⟩
  | 60 => ⟨S4, .f32⟩
  | 61 => ⟨S_, .f32⟩
  | 62 => ⟨S4, .f32⟩
  | 63 => ⟨S4, .f32⟩
  | 64 => ⟨S_, .f32⟩
  | 65 => ⟨S4, .f32⟩
  | 66 => ⟨S4, .f32⟩
  | 67 => ⟨S_, .f32⟩
  | 68 => ⟨S4, .f32⟩
  | 69 => ⟨S4, .f32⟩
  | 70 => ⟨S4, .f32⟩
  | 71 => ⟨S128, .f32⟩
  | 72 => ⟨S128x1, .f32⟩
  | 73 => ⟨S1x128, .f32⟩
  | 74 => ⟨S128x128, .f32⟩
  | 75 => ⟨S128x128, .f32⟩
  | 76 => ⟨S128x128, .f32⟩
  | 77 => ⟨S_, .f32⟩
  | 78 => ⟨S128x128, .f32⟩
  | 79 => ⟨S128x128, .i1⟩
  | 80 => ⟨S4x1x1, .f32⟩
  | 81 => ⟨S_, .f32⟩
  | 82 => ⟨S128x128, .f32⟩
  | 83 => ⟨S128x128, .f32⟩
  | 84 => ⟨S1x128x128, .f32⟩
  | 85 => ⟨S4x128x128, .f32⟩
  | 86 => ⟨S4x128x128, .f32⟩
  | 87 => ⟨S4x128x128, .f32⟩
  | 88 => ⟨S4x128x128, .f32⟩
  | 89 => ⟨S_, .f32⟩
  | 90 => ⟨S_, .f32⟩
  | 91 => ⟨S4x128x128, .i1⟩
  | 92 => ⟨S4x128x128, .f32⟩
  | 93 => ⟨S4x128x128, .f32⟩
  | 94 => ⟨S4x1, .f32⟩
  | 95 => ⟨S_, .f32⟩
  | 96 => ⟨S128, .f32⟩
  | 97 => ⟨S128, .f32⟩
  | 98 => ⟨S1x128, .f32⟩
  | 99 => ⟨S4x128, .f32⟩
  | 100 => ⟨S4x128, .f32⟩
  | 101 => ⟨S4x128, .f32⟩
  | 102 => ⟨S4x128, .f32⟩
  | 103 => ⟨S128x4, .f32⟩
  | 104 => ⟨S128x4x64, .f32⟩
  | 105 => ⟨S128x256, .f32⟩
  | 106 => ⟨S4x1, .f32⟩
  | 107 => ⟨S_, .f32⟩
  | 108 => ⟨S128, .f32⟩
  | 109 => ⟨S128, .f32⟩
  | 110 => ⟨S1x128, .f32⟩
  | 111 => ⟨S4x128, .f32⟩
  | 112 => ⟨S4x128, .f32⟩
  | 113 => ⟨S4x128, .f32⟩
  | 114 => ⟨S4x128, .f32⟩
  | 115 => ⟨S128x4, .f32⟩
  | 116 => ⟨S128x4x64, .f32⟩
  | 117 => ⟨S128x256, .f32⟩
  | 118 => ⟨S_, .f32⟩
  | 119 => ⟨S4, .f32⟩
  | 120 => ⟨S4, .f32⟩
  | 121 => ⟨S4, .f32⟩
  | 122 => ⟨S4x64, .f32⟩
  | 123 => ⟨S256, .f32⟩
  | 124 => ⟨S256x1, .f32⟩
  | 125 => ⟨S256x256, .f32⟩
  | 126 => ⟨S256x256, .f32⟩
  | 127 => ⟨S256x256, .bf16⟩
  | _ => ⟨S32x2048x1024, .f32⟩

abbrev hbmTy0_1 (i : Nat) : BufTy := match i % 128 with
  | 0 => ⟨S65536x1024, .f32⟩
  | 1 => ⟨S1024x3096, .bf16⟩
  | 2 => ⟨S1024x1280, .bf16⟩
  | 3 => ⟨S1024x24, .bf16⟩
  | 4 => ⟨S_, .i32⟩
  | 5 => ⟨S_, .bf16⟩
  | 6 => ⟨S1024x128, .bf16⟩
  | 7 => ⟨S1024x1792, .bf16⟩
  | 8 => ⟨S1024x3200, .bf16⟩
  | 9 => ⟨S1x64, .f32⟩
  | 10 => ⟨S4x64, .f32⟩
  | 11 => ⟨S256, .f32⟩
  | 12 => ⟨S1x256, .f32⟩
  | 13 => ⟨S1x64, .f32⟩
  | 14 => ⟨S2x64, .f32⟩
  | 15 => ⟨S128, .f32⟩
  | 16 => ⟨S1x128, .f32⟩
  | 17 => ⟨S1x1024, .f32⟩
  | 18 => ⟨S1x1x1x128, .f32⟩
  | 19 => ⟨S1x1x2x128, .f32⟩
  | 20 => ⟨S1x256, .f32⟩
  | 21 => ⟨S65536x512, .bf16⟩
  | 22 => ⟨S65536x1024, .bf16⟩
  | 23 => ⟨S4096x2048, .bf16⟩
  | 24 => ⟨S4096x2048, .bf16⟩
  | 25 => ⟨S65536x512, .bf16⟩
  | 26 => ⟨S65536x128, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S4x128x128, .f32⟩
  | .local _ .vmem, ⟨12, _⟩ => ⟨S128x256, .f32⟩
  | .local _ .vmem, ⟨13, _⟩ => ⟨S128x256, .f32⟩
  | .local _ .vmem, ⟨14, _⟩ => ⟨S256x256, .f32⟩
  | .local _ .vmem, ⟨15, _⟩ => ⟨S256x256, .f32⟩
  | .local _ .vmem, ⟨16, _⟩ => ⟨S3x256, .f32⟩
  | .local _ .vmem, ⟨17, _⟩ => ⟨S1024x512, .bf16⟩
  | .local _ .vmem, ⟨18, _⟩ => ⟨S1024x512, .bf16⟩
  | .local _ .vmem, ⟨19, _⟩ => ⟨S1024x1024, .bf16⟩
  | .local _ .vmem, ⟨20, _⟩ => ⟨S1024x1024, .bf16⟩
  | .local _ .vmem, ⟨21, _⟩ => ⟨S64x2048, .bf16⟩
  | .local _ .vmem, ⟨22, _⟩ => ⟨S64x2048, .bf16⟩
  | .local _ .vmem, ⟨23, _⟩ => ⟨S64x2048, .bf16⟩
  | .local _ .vmem, ⟨24, _⟩ => ⟨S64x2048, .bf16⟩
  | .local _ .vmem, ⟨25, _⟩ => ⟨S1024x512, .bf16⟩
  | .local _ .vmem, ⟨26, _⟩ => ⟨S1024x512, .bf16⟩
  | .local _ .vmem, ⟨27, _⟩ => ⟨S1024x128, .bf16⟩
  | .local _ .vmem, ⟨28, _⟩ => ⟨S1024x128, .bf16⟩
  | .local _ .vmem, ⟨29, _⟩ => ⟨S1024x128, .f32⟩
  | .local _ .vmem, ⟨30, _⟩ => ⟨S1024x128, .f32⟩
  | .local _ .vmem, ⟨31, _⟩ => ⟨S256x256, .f32⟩
  | .local _ .vmem, ⟨32, _⟩ => ⟨S8x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_cst_2 : Ref sig .tc := ⟨.hbm, 10, rfl⟩
abbrev main_cst_3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v1 : Ref sig .tc := ⟨.hbm, 32, rfl⟩
abbrev main_cst_4 : Ref sig .tc := ⟨.hbm, 33, rfl⟩
abbrev main_v2 : Ref sig .tc := ⟨.hbm, 34, rfl⟩
abbrev main_v3 : Ref sig .tc := ⟨.hbm, 35, rfl⟩
abbrev main_cst_5 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_10 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_11 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v51 : Ref sig .tc := ⟨.hbm, 93, rfl⟩
abbrev main_v52 : Ref sig .tc := ⟨.hbm, 94, rfl⟩
abbrev main_cst_12 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_13 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_14 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c : Ref sig .tc := ⟨.hbm, 132, rfl⟩
abbrev main_call2_v0 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102_0 : Ref sig .tc := ⟨.hbm, 149, rfl⟩
abbrev main_v102_1 : Ref sig .tc := ⟨.hbm, 150, rfl⟩
abbrev main_v102_2 : Ref sig .tc := ⟨.hbm, 151, rfl⟩
abbrev main_v102_3 : Ref sig .tc := ⟨.hbm, 152, rfl⟩
abbrev main_v102_4 : Ref sig .tc := ⟨.hbm, 153, rfl⟩
abbrev main_v102_5 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S32x2048x1024 : Shape := ⟨3, ![32, 2048, 1024]⟩
abbrev S1024 : Shape := ⟨1, ![1024]⟩
abbrev S1024x3096 : Shape := ⟨2, ![1024, 3096]⟩
abbrev S3x256 : Shape := ⟨2, ![3, 256]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3096 : Shape := ⟨3, ![32, 2048, 3096]⟩
abbrev S32x2048x256 : Shape := ⟨3, ![32, 2048, 256]⟩
abbrev S32x2048x512 : Shape := ⟨3, ![32, 2048, 512]⟩
abbrev S32x2048x128 : Shape := ⟨3, ![32, 2048, 128]⟩
abbrev S32x2048x24 : Shape := ⟨3, ![32, 2048, 24]⟩
abbrev S2048 : Shape := ⟨1, ![2048]⟩
abbrev S31 : Shape := ⟨1, ![31]⟩
abbrev S1 : Shape := ⟨1, ![1]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S2048x1x64 : Shape := ⟨3, ![2048, 1, 64]⟩
abbrev S32x2048x4x64 : Shape := ⟨4, ![32, 2048, 4, 64]⟩
abbrev S32x2048x4x32 : Shape := ⟨4, ![32, 2048, 4, 32]⟩
abbrev S32x2048x4x32x1 : Shape := ⟨5, ![32, 2048, 4, 32, 1]⟩
abbrev S32x2048x4x32x2 : Shape := ⟨5, ![32, 2048, 4, 32, 2]⟩
abbrev S1x2048x1x64 : Shape := ⟨4, ![1, 2048, 1, 64]⟩
abbrev S32x16x128x4x64 : Shape := ⟨5, ![32, 16, 128, 4, 64]⟩
abbrev S32x4x16x128x64 : Shape := ⟨5, ![32, 4, 16, 128, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S32x4x16x128x128 : Shape := ⟨5, ![32, 4, 16, 128, 128]⟩
abbrev S4x1x128x128 : Shape := ⟨4, ![4, 1, 128, 128]⟩
abbrev S1x4x1x128x128 : Shape := ⟨5, ![1, 4, 1, 128, 128]⟩
abbrev S4x1 : Shape := ⟨2, ![4, 1]⟩
abbrev S4x128 : Shape := ⟨2, ![4, 128]⟩
abbrev S4x1x128x1 : Shape := ⟨4, ![4, 1, 128, 1]⟩
abbrev S1x4x1x128x1 : Shape := ⟨5, ![1, 4, 1, 128, 1]⟩
abbrev S16x32x4x64x64 : Shape := ⟨5, ![16, 32, 4, 64, 64]⟩
abbrev S32x4x64x64 : Shape := ⟨4, ![32, 4, 64, 64]⟩
abbrev S1x4x1x1 : Shape := ⟨4, ![1, 4, 1, 1]⟩
abbrev S1x32x4x64x64 : Shape := ⟨5, ![1, 32, 4, 64, 64]⟩
abbrev S32x2048x4 : Shape := ⟨3, ![32, 2048, 4]⟩
abbrev S32x2048x4x1 : Shape := ⟨4, ![32, 2048, 4, 1]⟩
abbrev S32x2050x256 : Shape := ⟨3, ![32, 2050, 256]⟩
abbrev S1x256 : Shape := ⟨2, ![1, 256]⟩
abbrev S256 : Shape := ⟨1, ![256]⟩
abbrev S1x1x256 : Shape := ⟨3, ![1, 1, 256]⟩
abbrev S32x2048x2x4x64 : Shape := ⟨5, ![32, 2048, 2, 4, 64]⟩
abbrev S32x2048x2x4 : Shape := ⟨4, ![32, 2048, 2, 4]⟩
abbrev S32x2048x2x4x1 : Shape := ⟨5, ![32, 2048, 2, 4, 1]⟩
abbrev S1x1x1x1x64 : Shape := ⟨5, ![1, 1, 1, 1, 64]⟩
abbrev S32x2048x1x4x64 : Shape := ⟨5, ![32, 2048, 1, 4, 64]⟩
abbrev S32x2048x4x128 : Shape := ⟨4, ![32, 2048, 4, 128]⟩
abbrev S32x2048x8x128 : Shape := ⟨4, ![32, 2048, 8, 128]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S1x1x1x64 : Shape := ⟨4, ![1, 1, 1, 64]⟩
abbrev S65536x512 : Shape := ⟨2, ![65536, 512]⟩
abbrev S65536x1024 : Shape := ⟨2, ![65536, 1024]⟩
abbrev S4096x2048 : Shape := ⟨2, ![4096, 2048]⟩
abbrev S65536x128 : Shape := ⟨2, ![65536, 128]⟩

abbrev nBuf : Space → Nat
  | .hbm => 436
  | .vmem => 0
  | .smem => 0
  | _ => 0

abbrev hbmTy0_0 (i : Nat) : BufTy := match i % 128 with
  | 0 => ⟨S32x2048x1024, .f32⟩
  | 1 => ⟨S1024, .f32⟩
  | 2 => ⟨S1024x3096, .f32⟩
  | 3 => ⟨S3x256, .f32⟩
  | 4 => ⟨S64, .f32⟩
  | 5 => ⟨S64, .f32⟩
  | 6 => ⟨S32x2048x1024, .f32⟩
  | 7 => ⟨S_, .f32⟩
  | 8 => ⟨S32x2048, .f32⟩
  | 9 => ⟨S32x2048x1, .f32⟩
  | 10 => ⟨S_, .f32⟩
  | 11 => ⟨S32x2048x1, .f32⟩
  | 12 => ⟨S32x2048x1, .f32⟩
  | 13 => ⟨S_, .f32⟩
  | 14 => ⟨S32x2048x1, .f32⟩
  | 15 => ⟨S32x2048x1, .f32⟩
  | 16 => ⟨S32x2048x1, .f32⟩
  | 17 => ⟨S32x2048x1024, .f32⟩
  | 18 => ⟨S32x2048x1024, .f32⟩
  | 19 => ⟨S1x1x1024, .f32⟩
  | 20 => ⟨S32x2048x1024, .f32⟩
  | 21 => ⟨S32x2048x1024, .f32⟩
  | 22 => ⟨S32x2048x3096, .f32⟩
  | 23 => ⟨S32x2048x256, .f32⟩
  | 24 => ⟨S32x2048x256, .f32⟩
  | 25 => ⟨S32x2048x256, .f32⟩
  | 26 => ⟨S32x2048x256, .f32⟩
  | 27 => ⟨S32x2048x256, .f32⟩
  | 28 => ⟨S32x2048x256, .f32⟩
  | 29 => ⟨S32x2048x256, .f32⟩
  | 30 => ⟨S32x2048x512, .f32⟩
  | 31 => ⟨S32x2048x128, .f32⟩
  | 32 => ⟨S32x2048x128, .f32⟩
  | 33 => ⟨S32x2048x128, .f32⟩
  | 34 => ⟨S32x2048x128, .f32⟩
  | 35 => ⟨S32x2048x128, .f32⟩
  | 36 => ⟨S32x2048x128, .f32⟩
  | 37 => ⟨S32x2048x24, .f32⟩
  | 38 => ⟨S2048, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S31, .f32⟩
  | 47 => ⟨S_, .f32⟩
  | 48 => ⟨S31, .f32⟩
  | 49 => ⟨S31, .f32⟩
  | 50 => ⟨S1, .f32⟩
  | 51 => ⟨S_, .f32⟩
  | 52 => ⟨S31, .f32⟩
  | 53 => ⟨S31, .f32⟩
  | 54 => ⟨S31, .f32⟩
  | 55 => ⟨S31, .f32⟩
  | 56 => ⟨S1, .f32⟩
  | 57 => ⟨S31, .f32⟩
  | 58 => ⟨S31, .f32⟩
  | 59 => ⟨S31, .f32⟩
  | 60 => ⟨S1, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S2048x1, .f32⟩
  | 69 => ⟨S1x32, .f32⟩
  | 70 => ⟨S2048x32, .f32⟩
  | 71 => ⟨S2048x32, .f32⟩
  | 72 => ⟨S2048x32, .f32⟩
  | 73 => ⟨S2048x32x2, .f32⟩
  | 74 => ⟨S2048x64, .f32⟩
  | 75 => ⟨S2048x1x64, .f32⟩
  | 76 => ⟨S2048x1x64, .f32⟩
  | 77 => ⟨S2048x1x64, .f32⟩
  | 78 => ⟨S32x2048x4x64, .f32⟩
  | 79 => ⟨S32x2048x4x32, .f32⟩
  | 80 => ⟨S32x2048x4x32, .f32⟩
  | 81 => ⟨S32x2048x4x32, .f32⟩
  | 82 => ⟨S32x2048x4x32x1, .f32⟩
  | 83 => ⟨S32x2048x4x32x1, .f32⟩
  | 84 => ⟨S32x2048x4x32x2, .f32⟩
  | 85 => ⟨S32x2048x4x64, .f32⟩
  | 86 => ⟨S1x2048x1x64, .f32⟩
  | 87 => ⟨S32x2048x4x64, .f32⟩
  | 88 => ⟨S32x2048x4x64, .f32⟩
  | 89 => ⟨S1x2048x1x64, .f32⟩
  | 90 => ⟨S32x2048x4x64, .f32⟩
  | 91 => ⟨S32x2048x4x64, .f32⟩
  | 92 => ⟨S32x2048x4x64, .f32⟩
  | 93 => ⟨S32x2048x4x64, .f32⟩
  | 94 => ⟨S32x2048x4x32, .f32⟩
  | 95 => ⟨S32x2048x4x32, .f32⟩
  | 96 => ⟨S32x2048x4x32, .f32⟩
  | 97 => ⟨S32x2048x4x32x1, .f32⟩
  | 98 => ⟨S32x2048x4x32x1, .f32⟩
  | 99 => ⟨S32x2048x4x32x2, .f32⟩
  | 100 => ⟨S32x2048x4x64, .f32⟩
  | 101 => ⟨S1x2048x1x64, .f32⟩
  | 102 => ⟨S32x2048x4x64, .f32⟩
  | 103 => ⟨S32x2048x4x64, .f32⟩
  | 104 => ⟨S1x2048x1x64, .f32⟩
  | 105 => ⟨S32x2048x4x64, .f32⟩
  | 106 => ⟨S32x2048x4x64, .f32⟩
  | 107 => ⟨S32x2048x4x64, .f32⟩
  | 108 => ⟨S_, .f32⟩
  | 109 => ⟨S32x2048x4x64, .f32⟩
  | 110 => ⟨S32x2048x4x64, .f32⟩
  | 111 => ⟨S32x16x128x4x64, .f32⟩
  | 112 => ⟨S32x4x16x128x64, .f32⟩
  | 113 => ⟨S32x16x128x4x64, .f32⟩
  | 114 => ⟨S32x4x16x128x64, .f32⟩
  | 115 => ⟨S32x2048x4x64, .f32⟩
  | 116 => ⟨S32x16x128x4x64, .f32⟩
  | 117 => ⟨S32x4x16x128x64, .f32⟩
  | 118 => ⟨S4, .f32⟩
  | 119 => ⟨S_, .f32⟩
  | 120 => ⟨S4, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S32x2048x1024, .f32⟩

abbrev hbmTy0_1 (i : Nat) : BufTy := match i % 128 with
  | 0 => ⟨S4, .f32⟩
  | 1 => ⟨S128, .f32⟩
  | 2 => ⟨S128x1, .f32⟩
  | 3 => ⟨S1x128, .f32⟩
  | 4 => ⟨S128x128, .f32⟩
  | 5 => ⟨S128x128, .f32⟩
  | 6 => ⟨S128x128, .f32⟩
  | 7 => ⟨S_, .f32⟩
  | 8 => ⟨S128x128, .f32⟩
  | 9 => ⟨S128x128, .i1⟩
  | 10 => ⟨S4x1x1, .f32⟩
  | 11 => ⟨S_, .f32⟩
  | 12 => ⟨S128x128, .f32⟩
  | 13 => ⟨S128x128, .f32⟩
  | 14 => ⟨S1x128x128, .f32⟩
  | 15 => ⟨S4x128x128, .f32⟩
  | 16 => ⟨S4x128x128, .f32⟩
  | 17 => ⟨S4x128x128, .f32⟩
  | 18 => ⟨S4x128x128, .f32⟩
  | 19 => ⟨S_, .f32⟩
  | 20 => ⟨S_, .f32⟩
  | 21 => ⟨S4x128x128, .i1⟩
  | 22 => ⟨S4x128x128, .f32⟩
  | 23 => ⟨S4x128x128, .f32⟩
  | 24 => ⟨S32x4x16x128x128, .f32⟩
  | 25 => ⟨S4x1x128x128, .f32⟩
  | 26 => ⟨S1x4x1x128x128, .f32⟩
  | 27 => ⟨S32x4x16x128x128, .f32⟩
  | 28 => ⟨S32x4x16x128x128, .f32⟩
  | 29 => ⟨S32x4x16x128x64, .f32⟩
  | 30 => ⟨S4x1, .f32⟩
  | 31 => ⟨S_, .f32⟩
  | 32 => ⟨S128, .f32⟩
  | 33 => ⟨S128, .f32⟩
  | 34 => ⟨S1x128, .f32⟩
  | 35 => ⟨S4x128, .f32⟩
  | 36 => ⟨S4x128, .f32⟩
  | 37 => ⟨S4x128, .f32⟩
  | 38 => ⟨S4x128, .f32⟩
  | 39 => ⟨S4x1x128x1, .f32⟩
  | 40 => ⟨S4x1, .f32⟩
  | 41 => ⟨S_, .f32⟩
  | 42 => ⟨S128, .f32⟩
  | 43 => ⟨S128, .f32⟩
  | 44 => ⟨S1x128, .f32⟩
  | 45 => ⟨S4x128, .f32⟩
  | 46 => ⟨S4x128, .f32⟩
  | 47 => ⟨S4x128, .f32⟩
  | 48 => ⟨S4x128, .f32⟩
  | 49 => ⟨S4x1x128x1, .f32⟩
  | 50 => ⟨S_, .f32⟩
  | 51 => ⟨S4, .f32⟩
  | 52 => ⟨S4, .f32⟩
  | 53 => ⟨S4, .f32⟩
  | 54 => ⟨S4x1x1, .f32⟩
  | 55 => ⟨S1x4x1x128x1, .f32⟩
  | 56 => ⟨S32x4x16x128x64, .f32⟩
  | 57 => ⟨S32x4x16x128x64, .f32⟩
  | 58 => ⟨S16x32x4x64x64, .f32⟩
  | 59 => ⟨S_, .f32⟩
  | 60 => ⟨S32x4x64x64, .f32⟩
  | 61 => ⟨S1x4x1x1, .f32⟩
  | 62 => ⟨S32x4x64x64, .f32⟩
  | 63 => ⟨S32x4x64x64, .f32⟩
  | 64 => ⟨S1x32x4x64x64, .f32⟩
  | 65 => ⟨S32x4x64x64, .f32⟩
  | 66 => ⟨S32x4x64x64, .f32⟩
  | 67 => ⟨S1x4x1x1, .f32⟩
  | 68 => ⟨S32x4x64x64, .f32⟩
  | 69 => ⟨S32x4x64x64, .f32⟩
  | 70 => ⟨S1x32x4x64x64, .f32⟩
  | 71 => ⟨S32x4x64x64, .f32⟩
  | 72 => ⟨S32x4x64x64, .f32⟩
  | 73 => ⟨S1x4x1x1, .f32⟩
  | 74 => ⟨S32x4x64x64, .f32⟩
  | 75 => ⟨S32x4x64x64, .f32⟩
  | 76 => ⟨S1x32x4x64x64, .f32⟩
  | 77 => ⟨S32x4x64x64, .f32⟩
  | 78 => ⟨S32x4x64x64, .f32⟩
  | 79 => ⟨S1x4x1x1, .f32⟩
  | 80 => ⟨S32x4x64x64, .f32⟩
  | 81 => ⟨S32x4x64x64, .f32⟩
  | 82 => ⟨S1x32x4x64x64, .f32⟩
  | 83 => ⟨S32x4x64x64, .f32⟩
  | 84 => ⟨S32x4x64x64, .f32⟩
  | 85 => ⟨S1x4x1x1, .f32⟩
  | 86 => ⟨S32x4x64x64, .f32⟩
  | 87 => ⟨S32x4x64x64, .f32⟩
  | 88 => ⟨S1x32x4x64x64, .f32⟩
  | 89 => ⟨S32x4x64x64, .f32⟩
  | 90 => ⟨S32x4x64x64, .f32⟩
  | 91 => ⟨S1x4x1x1, .f32⟩
  | 92 => ⟨S32x4x64x64, .f32⟩
  | 93 => ⟨S32x4x64x64, .f32⟩
  | 94 => ⟨S1x32x4x64x64, .f32⟩
  | 95 => ⟨S32x4x64x64, .f32⟩
  | 96 => ⟨S32x4x64x64, .f32⟩
  | 97 => ⟨S1x4x1x1, .f32⟩
  | 98 => ⟨S32x4x64x64, .f32⟩
  | 99 => ⟨S32x4x64x64, .f32⟩
  | 100 => ⟨S1x32x4x64x64, .f32⟩
  | 101 => ⟨S32x4x64x64, .f32⟩
  | 102 => ⟨S32x4x64x64, .f32⟩
  | 103 => ⟨S1x4x1x1, .f32⟩
  | 104 => ⟨S32x4x64x64, .f32⟩
  | 105 => ⟨S32x4x64x64, .f32⟩
  | 106 => ⟨S1x32x4x64x64, .f32⟩
  | 107 => ⟨S32x4x64x64, .f32⟩
  | 108 => ⟨S32x4x64x64, .f32⟩
  | 109 => ⟨S1x4x1x1, .f32⟩
  | 110 => ⟨S32x4x64x64, .f32⟩
  | 111 => ⟨S32x4x64x64, .f32⟩
  | 112 => ⟨S1x32x4x64x64, .f32⟩
  | 113 => ⟨S32x4x64x64, .f32⟩
  | 114 => ⟨S32x4x64x64, .f32⟩
  | 115 => ⟨S1x4x1x1, .f32⟩
  | 116 => ⟨S32x4x64x64, .f32⟩
  | 117 => ⟨S32x4x64x64, .f32⟩
  | 118 => ⟨S1x32x4x64x64, .f32⟩
  | 119 => ⟨S32x4x64x64, .f32⟩
  | 120 => ⟨S32x4x64x64, .f32⟩
  | 121 => ⟨S1x4x1x1, .f32⟩
  | 122 => ⟨S32x4x64x64, .f32⟩
  | 123 => ⟨S32x4x64x64, .f32⟩
  | 124 => ⟨S1x32x4x64x64, .f32⟩
  | 125 => ⟨S32x4x64x64, .f32⟩
  | 126 => ⟨S32x4x64x64, .f32⟩
  | 127 => ⟨S1x4x1x1, .f32⟩
  | _ => ⟨S32x2048x1024, .f32⟩

abbrev hbmTy0_2 (i : Nat) : BufTy := match i % 128 with
  | 0 => ⟨S32x4x64x64, .f32⟩
  | 1 => ⟨S32x4x64x64, .f32⟩
  | 2 => ⟨S1x32x4x64x64, .f32⟩
  | 3 => ⟨S32x4x64x64, .f32⟩
  | 4 => ⟨S32x4x64x64, .f32⟩
  | 5 => ⟨S1x4x1x1, .f32⟩
  | 6 => ⟨S32x4x64x64, .f32⟩
  | 7 => ⟨S32x4x64x64, .f32⟩
  | 8 => ⟨S1x32x4x64x64, .f32⟩
  | 9 => ⟨S32x4x64x64, .f32⟩
  | 10 => ⟨S32x4x64x64, .f32⟩
  | 11 => ⟨S1x4x1x1, .f32⟩
  | 12 => ⟨S32x4x64x64, .f32⟩
  | 13 => ⟨S32x4x64x64, .f32⟩
  | 14 => ⟨S1x32x4x64x64, .f32⟩
  | 15 => ⟨S32x4x64x64, .f32⟩
  | 16 => ⟨S32x4x64x64, .f32⟩
  | 17 => ⟨S1x4x1x1, .f32⟩
  | 18 => ⟨S32x4x64x64, .f32⟩
  | 19 => ⟨S32x4x64x64, .f32⟩
  | 20 => ⟨S1x32x4x64x64, .f32⟩
  | 21 => ⟨S32x4x64x64, .f32⟩
  | 22 => ⟨S32x4x64x64, .f32⟩
  | 23 => ⟨S1x32x4x64x64, .f32⟩
  | 24 => ⟨S1x32x4x64x64, .f32⟩
  | 25 => ⟨S1x32x4x64x64, .f32⟩
  | 26 => ⟨S1x32x4x64x64, .f32⟩
  | 27 => ⟨S1x32x4x64x64, .f32⟩
  | 28 => ⟨S1x32x4x64x64, .f32⟩
  | 29 => ⟨S1x32x4x64x64, .f32⟩
  | 30 => ⟨S1x32x4x64x64, .f32⟩
  | 31 => ⟨S1x32x4x64x64, .f32⟩
  | 32 => ⟨S1x32x4x64x64, .f32⟩
  | 33 => ⟨S1x32x4x64x64, .f32⟩
  | 34 => ⟨S1x32x4x64x64, .f32⟩
  | 35 => ⟨S1x32x4x64x64, .f32⟩
  | 36 => ⟨S1x32x4x64x64, .f32⟩
  | 37 => ⟨S1x32x4x64x64, .f32⟩
  | 38 => ⟨S1x32x4x64x64, .f32⟩
  | 39 => ⟨S16x32x4x64x64, .f32⟩
  | 40 => ⟨S1x4x1x128x1, .f32⟩
  | 41 => ⟨S32x4x16x128x64, .f32⟩
  | 42 => ⟨S32x4x16x128x64, .f32⟩
  | 43 => ⟨S32x4x16x128x64, .f32⟩
  | 44 => ⟨S32x4x16x128x64, .f32⟩
  | 45 => ⟨S32x16x128x4x64, .f32⟩
  | 46 => ⟨S32x2048x4x64, .f32⟩
  | 47 => ⟨S32x2048x4x64, .f32⟩
  | 48 => ⟨S_, .f32⟩
  | 49 => ⟨S32x2048x4, .f32⟩
  | 50 => ⟨S32x2048x4x1, .f32⟩
  | 51 => ⟨S_, .f32⟩
  | 52 => ⟨S32x2048x4x1, .f32⟩
  | 53 => ⟨S32x2048x4x1, .f32⟩
  | 54 => ⟨S_, .f32⟩
  | 55 => ⟨S32x2048x4x1, .f32⟩
  | 56 => ⟨S32x2048x4x1, .f32⟩
  | 57 => ⟨S32x2048x4x1, .f32⟩
  | 58 => ⟨S32x2048x4x64, .f32⟩
  | 59 => ⟨S32x2048x4x64, .f32⟩
  | 60 => ⟨S32x2048x256, .f32⟩
  | 61 => ⟨S32x2048x256, .f32⟩
  | 62 => ⟨S32x2048x256, .f32⟩
  | 63 => ⟨S_, .f32⟩
  | 64 => ⟨S32x2048x256, .f32⟩
  | 65 => ⟨S32x2048x256, .f32⟩
  | 66 => ⟨S_, .f32⟩
  | 67 => ⟨S32x2048x256, .f32⟩
  | 68 => ⟨S32x2048x256, .f32⟩
  | 69 => ⟨S32x2048x256, .f32⟩
  | 70 => ⟨S32x2048x256, .f32⟩
  | 71 => ⟨S32x2048x256, .f32⟩
  | 72 => ⟨S_, .i32⟩
  | 73 => ⟨S_, .f32⟩
  | 74 => ⟨S32x2050x256, .f32⟩
  | 75 => ⟨S32x2048x256, .f32⟩
  | 76 => ⟨S1x256, .f32⟩
  | 77 => ⟨S256, .f32⟩
  | 78 => ⟨S1x1x256, .f32⟩
  | 79 => ⟨S32x2048x256, .f32⟩
  | 80 => ⟨S32x2048x256, .f32⟩
  | 81 => ⟨S32x2048x256, .f32⟩
  | 82 => ⟨S1x256, .f32⟩
  | 83 => ⟨S256, .f32⟩
  | 84 => ⟨S1x1x256, .f32⟩
  | 85 => ⟨S32x2048x256, .f32⟩
  | 86 => ⟨S32x2048x256, .f32⟩
  | 87 => ⟨S32x2048x256, .f32⟩
  | 88 => ⟨S32x2048x256, .f32⟩
  | 89 => ⟨S1x256, .f32⟩
  | 90 => ⟨S256, .f32⟩
  | 91 => ⟨S1x1x256, .f32⟩
  | 92 => ⟨S32x2048x256, .f32⟩
  | 93 => ⟨S32x2048x256, .f32⟩
  | 94 => ⟨S32x2048x256, .f32⟩
  | 95 => ⟨S32x2048x256, .f32⟩
  | 96 => ⟨S32x2048x512, .f32⟩
  | 97 => ⟨S32x2048x2x4x64, .f32⟩
  | 98 => ⟨S32x2048x2x4x64, .f32⟩
  | 99 => ⟨S_, .f32⟩
  | 100 => ⟨S32x2048x2x4, .f32⟩
  | 101 => ⟨S32x2048x2x4x1, .f32⟩
  | 102 => ⟨S_, .f32⟩
  | 103 => ⟨S32x2048x2x4x1, .f32⟩
  | 104 => ⟨S32x2048x2x4x1, .f32⟩
  | 105 => ⟨S_, .f32⟩
  | 106 => ⟨S32x2048x2x4x1, .f32⟩
  | 107 => ⟨S32x2048x2x4x1, .f32⟩
  | 108 => ⟨S32x2048x2x4x1, .f32⟩
  | 109 => ⟨S32x2048x2x4x64, .f32⟩
  | 110 => ⟨S32x2048x2x4x64, .f32⟩
  | 111 => ⟨S1x1x1x1x64, .f32⟩
  | 112 => ⟨S32x2048x2x4x64, .f32⟩
  | 113 => ⟨S32x2048x2x4x64, .f32⟩
  | 114 => ⟨S_, .f32⟩
  | 115 => ⟨S32x2048x2x4x64, .f32⟩
  | 116 => ⟨S32x2048x2x4x64, .f32⟩
  | 117 => ⟨S32x2048x1x4x64, .f32⟩
  | 118 => ⟨S32x2048x4x64, .f32⟩
  | 119 => ⟨S_, .i32⟩
  | 120 => ⟨S_, .f32⟩
  | 121 => ⟨S32x2048x4x128, .f32⟩
  | 122 => ⟨S32x2048x1x4x64, .f32⟩
  | 123 => ⟨S32x2048x4x64, .f32⟩
  | 124 => ⟨S_, .i32⟩
  | 125 => ⟨S_, .f32⟩
  | 126 => ⟨S32x2048x4x128, .f32⟩
  | 127 => ⟨S32x2048x8x128, .f32⟩
  | _ => ⟨S32x2048x1024, .f32⟩

abbrev hbmTy0_3 (i : Nat) : BufTy := match i % 128 with
  | 0 => ⟨S32x2048x2x64, .f32⟩
  | 1 => ⟨S32x2048x2x64, .f32⟩
  | 2 => ⟨S_, .f32⟩
  | 3 => ⟨S32x2048x2, .f32⟩
  | 4 => ⟨S32x2048x2x1, .f32⟩
  | 5 => ⟨S_, .f32⟩
  | 6 => ⟨S32x2048x2x1, .f32⟩
  | 7 => ⟨S32x2048x2x1, .f32⟩
  | 8 => ⟨S_, .f32⟩
  | 9 => ⟨S32x2048x2x1, .f32⟩
  | 10 => ⟨S32x2048x2x1, .f32⟩
  | 11 => ⟨S32x2048x2x1, .f32⟩
  | 12 => ⟨S32x2048x2x64, .f32⟩
  | 13 => ⟨S32x2048x2x64, .f32⟩
  | 14 => ⟨S1x1x1x64, .f32⟩
  | 15 => ⟨S32x2048x2x64, .f32⟩
  | 16 => ⟨S32x2048x2x64, .f32⟩
  | 17 => ⟨S32x2048x128, .f32⟩
  | 18 => ⟨S32x2048x2x64, .f32⟩
  | 19 => ⟨S32x2048x2x64, .f32⟩
  | 20 => ⟨S_, .f32⟩
  | 21 => ⟨S32x2048x2, .f32⟩
  | 22 => ⟨S32x2048x2x1, .f32⟩
  | 23 => ⟨S_, .f32⟩
  | 24 => ⟨S32x2048x2x1, .f32⟩
  | 25 => ⟨S32x2048x2x1, .f32⟩
  | 26 => ⟨S_, .f32⟩
  | 27 => ⟨S32x2048x2x1, .f32⟩
  | 28 => ⟨S32x2048x2x1, .f32⟩
  | 29 => ⟨S32x2048x2x1, .f32⟩
  | 30 => ⟨S32x2048x2x64, .f32⟩
  | 31 => ⟨S32x2048x2x64, .f32⟩
  | 32 => ⟨S1x1x1x64, .f32⟩
  | 33 => ⟨S32x2048x2x64, .f32⟩
  | 34 => ⟨S32x2048x2x64, .f32⟩
  | 35 => ⟨S32x2048x128, .f32⟩
  | 36 => ⟨S32x2048x512, .f32⟩
  | 37 => ⟨S_, .i32⟩
  | 38 => ⟨S_, .f32⟩
  | 39 => ⟨S32x2048x128, .f32⟩
  | 40 => ⟨S65536x512, .f32⟩
  | 41 => ⟨S65536x512, .bf16⟩
  | 42 => ⟨S65536x1024, .f32⟩
  | 43 => ⟨S65536x1024, .bf16⟩
  | 44 => ⟨S4096x2048, .f32⟩
  | 45 => ⟨S4096x2048, .bf16⟩
  | 46 => ⟨S4096x2048, .f32⟩
  | 47 => ⟨S4096x2048, .bf16⟩
  | 48 => ⟨S65536x512, .f32⟩
  | 49 => ⟨S65536x512, .bf16⟩
  | 50 => ⟨S65536x128, .f32⟩
  | 51 => ⟨S65536x128, .bf16⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_cst : Ref sig .tc := ⟨.hbm, 44, rfl⟩
abbrev main_call0_v3 : Ref sig .tc := ⟨.hbm, 45, rfl⟩
abbrev main_call0_v4 : Ref sig .tc := ⟨.hbm, 46, rfl⟩
abbrev main_call0_cst_0 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_6 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_7 : Ref sig .tc := ⟨.hbm, 119, rfl⟩
abbrev main_v85 : Ref sig .tc := ⟨.hbm, 120, rfl⟩
abbrev main_v86 : Ref sig .tc := ⟨.hbm, 121, rfl⟩
abbrev main_cst_8 : Ref sig .tc := ⟨.hbm, 122, rfl⟩
abbrev main_v87 : Ref sig .tc := ⟨.hbm, 123, rfl⟩
abbrev main_v88 : Ref sig .tc := ⟨.hbm, 124, rfl⟩
abbrev main_cst_9 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_10 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_11 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_12 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_13 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_14 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_15 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_16 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_cst_17 : Ref sig .tc := ⟨.hbm, 304, rfl⟩
abbrev main_v257 : Ref sig .tc := ⟨.hbm, 305, rfl⟩
abbrev main_v258 : Ref sig .tc := ⟨.hbm, 306, rfl⟩
abbrev main_cst_18 : Ref sig .tc := ⟨.hbm, 307, rfl⟩
abbrev main_v259 : Ref sig .tc := ⟨.hbm, 308, rfl⟩
abbrev main_v260 : Ref sig .tc := ⟨.hbm, 309, rfl⟩
abbrev main_cst_19 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_call2_v0 : Ref sig .tc := ⟨.hbm, 317, rfl⟩
abbrev main_call2_v1 : Ref sig .tc := ⟨.hbm, 318, rfl⟩
abbrev main_call2_cst : Ref sig .tc := ⟨.hbm, 319, rfl⟩
abbrev main_call2_v2 : Ref sig .tc := ⟨.hbm, 320, rfl⟩
abbrev main_call2_v3 : Ref sig .tc := ⟨.hbm, 321, rfl⟩
abbrev main_call2_cst_0 : Ref sig .tc := ⟨.hbm, 322, rfl⟩
abbrev main_call2_v4 : Ref sig .tc := ⟨.hbm, 323, rfl⟩
abbrev main_call2_v5 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_c : Ref sig .tc := ⟨.hbm, 328, rfl⟩
abbrev main_call3_v0 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_cst_20 : Ref sig .tc := ⟨.hbm, 355, rfl⟩
abbrev main_v295 : Ref sig .tc := ⟨.hbm, 356, rfl⟩
abbrev main_v296 : Ref sig .tc := ⟨.hbm, 357, rfl⟩
abbrev main_cst_21 : Ref sig .tc := ⟨.hbm, 358, rfl⟩
abbrev main_v297 : Ref sig .tc := ⟨.hbm, 359, rfl⟩
abbrev main_v298 : Ref sig .tc := ⟨.hbm, 360, rfl⟩
abbrev main_cst_22 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_cst_23 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_c_24 : Ref sig .tc := ⟨.hbm, 375, rfl⟩
abbrev main_call4_v0 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_c_25 : Ref sig .tc := ⟨.hbm, 380, rfl⟩
abbrev main_call5_v0 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_cst_26 : Ref sig .tc := ⟨.hbm, 386, rfl⟩
abbrev main_v318 : Ref sig .tc := ⟨.hbm, 387, rfl⟩
abbrev main_v319 : Ref sig .tc := ⟨.hbm, 388, rfl⟩
abbrev main_cst_27 : Ref sig .tc := ⟨.hbm, 389, rfl⟩
abbrev main_v320 : Ref sig .tc := ⟨.hbm, 390, rfl⟩
abbrev main_v321 : Ref sig .tc := ⟨.hbm, 391, rfl⟩
abbrev main_cst_28 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_cst_29 : Ref sig .tc := ⟨.hbm, 404, rfl⟩
abbrev main_v333 : Ref sig .tc := ⟨.hbm, 405, rfl⟩
abbrev main_v334 : Ref sig .tc := ⟨.hbm, 406, rfl⟩
abbrev main_cst_30 : Ref sig .tc := ⟨.hbm, 407, rfl⟩
abbrev main_v335 : Ref sig .tc := ⟨.hbm, 408, rfl⟩
abbrev main_v336 : Ref sig .tc := ⟨.hbm, 409, rfl⟩
abbrev main_cst_31 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_v341 : Ref sig .tc := ⟨.hbm, 415, rfl⟩
abbrev main_v342 : Ref sig .tc := ⟨.hbm, 416, rfl⟩
abbrev main_v343 : Ref sig .tc := ⟨.hbm, 417, rfl⟩
abbrev main_v344 : Ref sig .tc := ⟨.hbm, 418, rfl⟩
abbrev main_v345 : Ref sig .tc := ⟨.hbm, 419, rfl⟩
abbrev main_v346 : Ref sig .tc := ⟨.hbm, 420, rfl⟩
abbrev main_c_32 : Ref sig .tc := ⟨.hbm, 421, rfl⟩
abbrev main_call6_v0 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S65536x512 : Shape := ⟨2, ![65536, 512]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S65536x1024, .f32⟩
  | .hbm, ⟨8, _⟩ => ⟨S1024x1024, .bf16⟩
  | .hbm, ⟨9, _⟩ => ⟨S65536x512, .bf16⟩
  | .hbm, ⟨10, _⟩ => ⟨S65536x512, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S65536x1024 : Shape := ⟨2, ![65536, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32x2048x1024, .bf16⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S32x2048x1, .f32⟩
  | .hbm, ⟨22, _⟩ => ⟨S32x2048x1024, .f32⟩
  | .hbm, ⟨23, _⟩ => ⟨S32x2048x1024, .f32⟩
  | .hbm, ⟨24, _⟩ => ⟨S1x1x1024, .f32⟩
  | .hbm, ⟨25, _⟩ => ⟨S32x2048x1024, .f32⟩
  | .hbm, ⟨26, _⟩ => ⟨S32x2048x1024, .f32⟩
  | .hbm, ⟨27, _⟩ => ⟨S32x2048x4096, .f32⟩
  | .hbm, ⟨28, _⟩ => ⟨S_, .f32⟩
  | .hbm, ⟨29, _⟩ => ⟨S32x2048x4096, .f32⟩
  | .hbm, ⟨30, _⟩ => ⟨S32x2048x4096, .f32⟩
  | .hbm, ⟨31, _⟩ => ⟨S32x2048x4096, .f32⟩
  | .hbm, ⟨32, _⟩ => ⟨S32x2048x1024, .f32⟩
  | .hbm, ⟨33, _⟩ => ⟨S32x2048x1024, .f32⟩
  | .hbm, ⟨34, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Kernel3.lean ====
abbrev S32x2048x128 : Shape := ⟨3, ![32, 2048, 128]⟩
abbrev S64 : Shape := ⟨1, ![64]⟩
abbrev S32x64 : Shape := ⟨2, ![32, 64]⟩
abbrev S2048x64 : Shape := ⟨2, ![2048, 64]⟩
abbrev S64x64 : Shape := ⟨2, ![64, 64]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x2 : Shape := ⟨2, ![2, 2]⟩
abbrev S_ : Shape := ⟨0, ![]⟩
abbrev S2x16x64x64 : Shape := ⟨4, ![2, 16, 64, 64]⟩
abbrev S2x16x1x64x1x64 : Shape := ⟨6, ![2, 16, 1, 64, 1, 64]⟩
abbrev S1x1x2x1x2x1 : Shape := ⟨6, ![1, 1, 2, 1, 2, 1]⟩
abbrev S2x16x2x64x2x64 : Shape := ⟨6, ![2, 16, 2, 64, 2, 64]⟩
abbrev S2x2048x128 : Shape := ⟨3, ![2, 2048, 128]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S32x128x2048 : Shape := ⟨3, ![32, 128, 2048]⟩
abbrev S32x128x128 : Shape := ⟨3, ![32, 128, 128]⟩
abbrev S1x128x2048 : Shape := ⟨3, ![1, 128, 2048]⟩
abbrev S1x128x128 : Shape := ⟨3, ![1, 128, 128]⟩
abbrev S128x2048 : Shape := ⟨2, ![128, 2048]⟩
abbrev S1x2048 : Shape := ⟨2, ![1, 2048]⟩
abbrev S1x2048x128 : Shape := ⟨3, ![1, 2048, 128]⟩
abbrev S2048x128 : Shape := ⟨2, ![2048, 128]⟩

abbrev nBuf : Space → Nat
  | .hbm => 69
  | .vmem => 16
  | .smem => 0
  | _ => 0

abbrev bufTy : (tb : Table) → Fin (tcTables nBuf tb) → BufTy
  | .hbm, ⟨0, _⟩ => ⟨S32x2048x128, .bf16⟩
  | .hbm, ⟨1, _⟩ => ⟨S32x2048x128, .bf16⟩
  | .hbm, ⟨2, _⟩ => ⟨S64, .f32⟩
  | .hbm, ⟨3, _⟩ => ⟨S32x64, .f32⟩
  | .hbm, ⟨4, _⟩ => ⟨S2048x64, .f32⟩
  | .hbm, ⟨5, _⟩ => ⟨S64x64, .f32⟩
  | .hbm, ⟨6, _⟩ => ⟨S32x64, .f32⟩
  | .hbm, ⟨7, _⟩ => ⟨S2048x64, .f32⟩
  | .hbm, ⟨8, _⟩ => ⟨S64x64, .f32⟩
  | .hbm, ⟨9, _⟩ => ⟨S128x128, .f32⟩
  | .hbm, ⟨10, _⟩ => ⟨S128x128, .bf16⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S2x2, .i32⟩
  | .hbm, ⟨16, _⟩ => ⟨S2x2, .i32⟩
  | .hbm, ⟨17, _⟩ => ⟨S_, .i32⟩
  | .hbm, ⟨18, _⟩ => ⟨S2x2, .i32⟩
  | .hbm, ⟨19, _⟩ => ⟨S2x2, .i32⟩
  | .hbm, ⟨20, _⟩ => ⟨S2x2, .i1⟩
  | .hbm, ⟨21, _⟩ => ⟨S2x2, .f32⟩
  | .hbm, ⟨22, _⟩ => ⟨S2x16x64x64, .f32⟩
  | .hbm, ⟨23, _⟩ => ⟨S2x16x1x64x1x64, .f32⟩
  | .hbm, ⟨24, _⟩ => ⟨S1x1x2x1x2x1, .f32⟩
  | .hbm, ⟨25, _⟩ => ⟨S2x16x2x64x2x64, .f32⟩
  | .hbm, ⟨26, _⟩ => ⟨S2x16x2x64x2x64, .f32⟩
  | .hbm, ⟨27, _⟩ => ⟨S2x16x2x64x2x64, .f32⟩
  | .hbm, ⟨28, _⟩ => ⟨S2x2048x128, .f32⟩
  | .hbm, ⟨29, _⟩ => ⟨S2x16x1x64, .f32⟩
  | .hbm, ⟨30, _⟩ => ⟨S2x16x2x64, .f32⟩
  | .hbm, ⟨31, _⟩ => ⟨S2x2048, .f32⟩
  | .hbm, ⟨32, _⟩ => ⟨S2x1x2x1, .f32⟩
  | .hbm, ⟨33, _⟩ => ⟨S1x64x1x64, .f32⟩
  | .hbm, ⟨34, _⟩ => ⟨S2x64x2x64, .f32⟩
  | .hbm, ⟨35, _⟩ => ⟨S2x64x2x64, .f32⟩
  | .hbm, ⟨36, _⟩ => ⟨S2x64x2x64, .f32⟩
  | .hbm, ⟨37, _⟩ => ⟨S128x128, .f32⟩
  | .hbm, ⟨38, _⟩ => ⟨S2x2048x128, .bf16⟩
  | .hbm, ⟨39, _⟩ => ⟨S128x128, .bf16⟩
  | .hbm, ⟨40, _⟩ => ⟨S2x2, .i32⟩
  | .hbm, ⟨41, _⟩ => ⟨S2x2, .i32⟩
  | .hbm, ⟨42, _⟩ => ⟨S_, .i32⟩
  | .hbm, ⟨43, _⟩ => ⟨S2x2, .i32⟩
  | .hbm, ⟨44, _⟩ => ⟨S2x2, .i32⟩
  | .hbm, ⟨45, _⟩ => ⟨S2x2, .i1⟩
  | .hbm, ⟨46, _⟩ => ⟨S2x2, .f32⟩
  | .hbm, ⟨47, _⟩ => ⟨S2x16x64x64, .f32⟩
  | .hbm, ⟨48, _⟩ => ⟨S2x16x1x64x1x64, .f32⟩
  | .hbm, ⟨49, _⟩ => ⟨S1x1x2x1x2x1, .f32⟩
  | .hbm, ⟨50, _⟩ => ⟨S2x16x2x64x2x64, .f32⟩
  | .hbm, ⟨51, _⟩ => ⟨S2x16x2x64x2x64, .f32⟩
  | .hbm, ⟨52, _⟩ => ⟨S2x16x2x64x2x64, .f32⟩
  | .hbm, ⟨53, _⟩ => ⟨S2x2048x128, .f32⟩
  | .hbm, ⟨54, _⟩ => ⟨S2x16x1x64, .f32⟩
  | .hbm, ⟨55, _⟩ => ⟨S2x16x2x64, .f32⟩
  | .hbm, ⟨56, _⟩ => ⟨S2x2048, .f32⟩
  | .hbm, ⟨57, _⟩ => ⟨S2x1x2x1, .f32⟩
  | .hbm, ⟨58, _⟩ => ⟨S1x64x1x64, .f32⟩
  | .hbm, ⟨59, _⟩ => ⟨S2x64x2x64, .f32⟩
  | .hbm, ⟨60, _⟩ => ⟨S2x64x2x64, .f32⟩
  | .hbm, ⟨61, _⟩ => ⟨S2x64x2x64, .f32⟩
  | .hbm, ⟨62, _⟩ => ⟨S128x128, .f32⟩
  | .hbm, ⟨63, _⟩ => ⟨S2x2048x128, .bf16⟩
  | .hbm, ⟨64, _⟩ => ⟨S128x128, .bf16⟩
  | .hbm, ⟨65, _⟩ => ⟨S32x128x2048, .bf16⟩
  | .hbm, ⟨66, _⟩ => ⟨S32x128x2048, .bf16⟩
  | .hbm, ⟨67, _⟩ => ⟨S32x128x128, .bf16⟩
  | .hbm, ⟨68, _⟩ => ⟨S32x128x128, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S2x2048, .f32⟩
  | .local _ .vmem, ⟨5, _⟩ => ⟨S2x2048, .f32⟩
  | .local _ .vmem, ⟨6, _⟩ => ⟨S2x2048x128, .bf16⟩
  | .local _ .vmem, ⟨7, _⟩ => ⟨S2x2048x128, .bf16⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | _, _ => ⟨S32x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32x2048x128 : Shape := ⟨3, ![32, 2048, 128]⟩
abbrev S64 : Shape := ⟨1, ![64]⟩
abbrev S32x64 : Shape := ⟨2, ![32, 64]⟩
abbrev S2048x64 : Shape := ⟨2, ![2048, 64]⟩
abbrev S64x64 : Shape := ⟨2, ![64, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S32x2048x2x64 : Shape := ⟨4, ![32, 2048, 2, 64]⟩
abbrev S127x32x1 : Shape := ⟨3, ![127, 32, 1]⟩
abbrev S32x127x32x2x64 : Shape := ⟨5, ![32, 127, 32, 2, 64]⟩
abbrev S1x1x32x1x64 : Shape := ⟨5, ![1, 1, 32, 1, 64]⟩
abbrev S32x127x2x32x64 : Shape := ⟨5, ![32, 127, 2, 32, 64]⟩
abbrev S32x127x2x2048 : Shape := ⟨4, ![32, 127, 2, 2048]⟩
abbrev S32x127x2x64 : Shape := ⟨4, ![32, 127, 2, 64]⟩
abbrev S32x127x2 : Shape := ⟨3, ![32, 127, 2]⟩
abbrev S32x127x2x1 : Shape := ⟨4, ![32, 127, 2, 1]⟩
abbrev S1x1x1x64 : Shape := ⟨4, ![1, 1, 1, 64]⟩
abbrev S32x127x128 : Shape := ⟨3, ![32, 127, 128]⟩
abbrev S32x128x128 : Shape := ⟨3, ![32, 128, 128]⟩

abbrev nBuf : Space → Nat
  | .hbm => 99
  | .vmem => 0
  | .smem => 0
  | _ => 0

abbrev bufTy : (tb : Table) → Fin (tcTables nBuf tb) → BufTy
  | .hbm, ⟨0, _⟩ => ⟨S32x2048x128, .bf16⟩
  | .hbm, ⟨1, _⟩ => ⟨S32x2048x128, .bf16⟩
  | .hbm, ⟨2, _⟩ => ⟨S64, .f32⟩
  | .hbm, ⟨3, _⟩ => ⟨S32x64, .f32⟩
  | .hbm, ⟨4, _⟩ => ⟨S2048x64, .f32⟩
  | .hbm, ⟨5, _⟩ => ⟨S64x64, .f32⟩
  | .hbm, ⟨6, _⟩ => ⟨S32x64, .f32⟩
  | .hbm, ⟨7, _⟩ => ⟨S2048x64, .f32⟩
  | .hbm, ⟨8, _⟩ => ⟨S64x64, .f32⟩
  | .hbm, ⟨9, _⟩ => ⟨S127, .i32⟩
  | .hbm, ⟨10, _⟩ => ⟨S127x1, .i32⟩
  | .hbm, ⟨11, _⟩ => ⟨S_, .i32⟩
  | .hbm, ⟨12, _⟩ => ⟨S127x1, .i32⟩
  | .hbm, ⟨13, _⟩ => ⟨S127x1, .i32⟩
  | .hbm, ⟨14, _⟩ => ⟨S32, .i32⟩
  | .hbm, ⟨15, _⟩ => ⟨S1x32, .i32⟩
  | .hbm, ⟨16, _⟩ => ⟨S127x32, .i32⟩
  | .hbm, ⟨17, _⟩ => ⟨S127x32, .i32⟩
  | .hbm, ⟨18, _⟩ => ⟨S127x32, .i32⟩
  | .hbm, ⟨19, _⟩ => ⟨S32x2048x128, .f32⟩
  | .hbm, ⟨20, _⟩ => ⟨S32x2048x2x64, .f32⟩
  | .hbm, ⟨21, _⟩ => ⟨S_, .i32⟩
  | .hbm, ⟨22, _⟩ => ⟨S127x32, .i32⟩
  | .hbm, ⟨23, _⟩ => ⟨S127x32, .i1⟩
  | .hbm, ⟨24, _⟩ => ⟨S_, .i32⟩
  | .hbm, ⟨25, _⟩ => ⟨S127x32, .i32⟩
  | .hbm, ⟨26, _⟩ => ⟨S127x32, .i32⟩
  | .hbm, ⟨27, _⟩ => ⟨S127x32, .i32⟩
  | .hbm, ⟨28, _⟩ => ⟨S127x32x1, .i32⟩
  | .hbm, ⟨29, _⟩ => ⟨S32x127x32x2x64, .f32⟩
  | .hbm, ⟨30, _⟩ => ⟨S1x1x32x1x64, .f32⟩
  | .hbm, ⟨31, _⟩ => ⟨S32x127x32x2x64, .f32⟩
  | .hbm, ⟨32, _⟩ => ⟨S32x127x32x2x64, .f32⟩
  | .hbm, ⟨33, _⟩ => ⟨S32x127x2x32x64, .f32⟩
  | .hbm, ⟨34, _⟩ => ⟨S32x127x2x2048, .f32⟩
  | .hbm, ⟨35, _⟩ => ⟨S32x127x2x64, .f32⟩
  | .hbm, ⟨36, _⟩ => ⟨S32x127x2x64, .f32⟩
  | .hbm, ⟨37, _⟩ => ⟨S32x127x2x64, .f32⟩
  | .hbm, ⟨38, _⟩ => ⟨S_, .f32⟩
  | .hbm, ⟨39, _⟩ => ⟨S32x127x2x64, .f32⟩
  | .hbm, ⟨40, _⟩ => ⟨S32x127x2x64, .f32⟩
  | .hbm, ⟨41, _⟩ => ⟨S_, .f32⟩
  | .hbm, ⟨42, _⟩ => ⟨S32x127x2x64, .f32⟩
  | .hbm, ⟨43, _⟩ => ⟨S32x127x2x64, .f32⟩
  | .hbm, ⟨44, _⟩ => ⟨S32x127x2x64, .f32⟩
  | .hbm, ⟨45, _⟩ => ⟨S32x127x2x64, .f32⟩
  | .hbm, ⟨46, _⟩ => ⟨S32x127x2x64, .f32⟩
  | .hbm, ⟨47, _⟩ => ⟨S_, .f32⟩
  | .hbm, ⟨48, _⟩ => ⟨S32x127x2, .f32⟩
  | .hbm, ⟨49, _⟩ => ⟨S32x127x2x1, .f32⟩
  | .hbm, ⟨50, _⟩ => ⟨S_, .f32⟩
  | .hbm, ⟨51, _⟩ => ⟨S32x127x2x1, .f32⟩
  | .hbm, ⟨52, _⟩ => ⟨S32x127x2x1, .f32⟩
  | .hbm, ⟨53, _⟩ => ⟨S_, .f32⟩
  | .hbm, ⟨54, _⟩ => ⟨S32x127x2x1, .f32⟩
  | .hbm, ⟨55, _⟩ => ⟨S32x127x2x1, .f32⟩
  | .hbm, ⟨56, _⟩ => ⟨S32x127x2x1, .f32⟩
  | .hbm, ⟨57, _⟩ => ⟨S32x127x2x64, .f32⟩
  | .hbm, ⟨58, _⟩ => ⟨S32x127x2x64, .f32⟩
  | .hbm, ⟨59, _⟩ => ⟨S1x1x1x64, .f32⟩
  | .hbm, ⟨60, _⟩ => ⟨S32x127x2x64, .f32⟩
  | .hbm, ⟨61, _⟩ => ⟨S32x127x2x64, .f32⟩
  | .hbm, ⟨62, _⟩ => ⟨S32x127x128, .f32⟩
  | .hbm, ⟨63, _⟩ => ⟨S_, .i32⟩
  | .hbm, ⟨64, _⟩ => ⟨S_, .f32⟩
  | .hbm, ⟨65, _⟩ => ⟨S32x128x128, .f32⟩
  | .hbm, ⟨66, _⟩ => ⟨S32x128x128, .bf16⟩
  | .hbm, ⟨67, _⟩ => ⟨S32x2048x128, .f32⟩
  | .hbm, ⟨68, _⟩ => ⟨S32x2048x2x64, .f32⟩
  | .hbm, ⟨69, _⟩ => ⟨S_, .i32⟩
  | .hbm, ⟨70, _⟩ => ⟨S127x32, .i32⟩
  | .hbm, ⟨71, _⟩ => ⟨S127x32, .i1⟩
  | .hbm, ⟨72, _⟩ => ⟨S_, .i32⟩
  | .hbm, ⟨73, _⟩ => ⟨S127x32, .i32⟩
  | .hbm, ⟨74, _⟩ => ⟨S127x32, .i32⟩
  | .hbm, ⟨75, _⟩ => ⟨S127x32, .i32⟩
  | .hbm, ⟨76, _⟩ => ⟨S127x32x1, .i32⟩
  | .hbm, ⟨77, _⟩ => ⟨S32x127x32x2x64, .f32⟩
  | .hbm, ⟨78, _⟩ => ⟨S1x1x32x1x64, .f32⟩
  | .hbm, ⟨79, _⟩ => ⟨S32x127x32x2x64, .f32⟩
  | .hbm, ⟨80, _⟩ => ⟨S32x127x32x2x64, .f32⟩
  | .hbm, ⟨81, _⟩ => ⟨S32x127x2x32x64, .f32⟩
  | .hbm, ⟨82, _⟩ => ⟨S32x127x2x2048, .f32⟩
  | .hbm, ⟨83, _⟩ => ⟨S32x127x2x64, .f32⟩
  | .hbm, ⟨84, _⟩ => ⟨S32x127x2x64, .f32⟩
  | .hbm, ⟨85, _⟩ => ⟨S32x127x2x64, .f32⟩
  | .hbm, ⟨86, _⟩ => ⟨S_, .f32⟩
  | .hbm, ⟨87, _⟩ => ⟨S32x127x2x64, .f32⟩
  | .hbm, ⟨88, _⟩ => ⟨S32x127x2x64, .f32⟩
  | .hbm, ⟨89, _⟩ => ⟨S_, .f32⟩
  | .hbm, ⟨90, _⟩ => ⟨S32x127x2x64, .f32⟩
  | .hbm, ⟨91, _⟩ => ⟨S32x127x2x64, .f32⟩
  | .hbm, ⟨92, _⟩ => ⟨S32x127x2x64, .f32⟩
  | .hbm, ⟨93, _⟩ => ⟨S32x127x2x64, .f32⟩
  | .hbm, ⟨94, _⟩ => ⟨S32x127x128, .f32⟩
  | .hbm, ⟨95, _⟩ => ⟨S_, .i32⟩
  | .hbm, ⟨96, _⟩ => ⟨S_, .f32⟩
  | .hbm, ⟨97, _⟩ => ⟨S32x128x128, .f32⟩
  | .hbm, ⟨98, _⟩ => ⟨S32x128x128, .bf16⟩
  | _, _ => ⟨S32x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_4 : Ref sig .tc := ⟨.hbm, 63, rfl⟩
abbrev main_call1_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_c_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_7 : Ref sig .tc := ⟨.hbm, 95, rfl⟩
abbrev main_call3_v0 : Ref sig .tc := ⟨.hbm, 96, rfl⟩
abbrev main_v60 : Ref sig .tc := ⟨.hbm, 97, rfl⟩
abbrev main_v61 : Ref sig .tc := ⟨.hbm, 98, rfl⟩

abbrev nD : Nat := 1
abbrev τ : Topo := Topo.v7x

variable {F : FTy → Type} [FloatOps F]
-- ==== Proof.OutFfn.lean ====
/- The second call's result: the output projection and the feed-forward block, row by row. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- One row after the output projection: the residual row plus the two mixers' rows through their halves of the matrix. -/
def x1 (x : Fin 1024 → EReal) (yr yn : Fin 512 → EReal) (wa wb : Fin 512 → Fin 1024 → EReal) (j : Fin 1024) : EReal :=
  x j + (∑ k, yr k * wa k j + ∑ k, yn k * wb k j)

/-- One row after the root-mean-square norm. -/
def nrm (x : Fin 1024 → EReal) (g : Fin 1024 → EReal) (j : Fin 1024) : EReal :=
  x j * Ideal.rsqrt (Ideal.div (∑ k, x k * x k) (Ideal.ofBits .f32 0x44800000#32) + Ideal.ofBits .f32 0x358637BD#32) * g j

/-- One hidden unit of the feed-forward block: the rectified product, squared. -/
def hid {n : ℕ} (h : Fin 1024 → EReal) (wu : Fin 1024 → Fin n → EReal) (f : Fin n) : EReal :=
  max (∑ k, h k * wu k f) 0 * max (∑ k, h k * wu k f) 0

/-- A sum over the 4096 hidden units as the four sums over 1024 that the kernel adds in turn. -/
theorem sum_four (f : Fin 4096 → EReal) : ∑ i, f i
    = ∑ k : Fin 1024, f ⟨k, by omega⟩ + ∑ k : Fin 1024, f ⟨1024 + k, by omega⟩ + ∑ k : Fin 1024, f ⟨2048 + k, by omega⟩
      + ∑ k : Fin 1024, f ⟨3072 + k, by omega⟩ := by
  rw [show (∑ i, f i) = ∑ i : Fin (1024 + 1024 + 1024 + 1024), f i from rfl, Fin.sum_univ_add, Fin.sum_univ_add, Fin.sum_univ_add]
  rfl

/-- The whole row. -/
def row (x : Fin 1024 → EReal) (yr yn : Fin 512 → EReal) (wa wb : Fin 512 → Fin 1024 → EReal) (g : Fin 1024 → EReal)
    (wu : Fin 1024 → Fin 4096 → EReal) (wd : Fin 4096 → Fin 1024 → EReal) (j : Fin 1024) : EReal :=
  x1 x yr yn wa wb j + ∑ f, hid (nrm (x1 x yr yn wa wb) g) wu f * wd f j

theorem pay3_apply (x : Vec Ideal S512x1024 .f32) (yr yn : Vec Ideal S512x512 .bf16) (wa wb : Vec Ideal S512x1024 .bf16) (r : Fin 512) (j : Fin 1024) :
    k0_pay3 x yr wa yn wb (ix2 r j)
      = x1 (fun k => x (ix2 r k)) (fun k => yr (ix2 r k)) (fun k => yn (ix2 r k)) (fun k i => wa (ix2 k i)) (fun k i => wb (ix2 k i)) j := by
  pointwise [k0_pay3, x1]
  rw [add_assoc]

theorem pay4_apply (x : Vec Ideal S512x1024 .f32) (yr yn : Vec Ideal S512x512 .bf16) (wa wb : Vec Ideal S512x1024 .bf16)
    (g : Vec Ideal S1x1024 .f32) (r : Fin 512) (j : Fin 1024) :
    k0_pay4 x yr wa yn wb g (ix2 r j) = nrm (fun k => k0_pay3 x yr wa yn wb (ix2 r k)) (fun k => g (ix2 0 k)) j := by
  pointwise [k0_pay4, nrm]

/-- One chunk of hidden units added to what stands in the result block: the four payloads that do it say the same. -/
theorem pay2_apply (h : FVec Ideal S512x1024 .bf16) (wu : Vec Ideal S1024x1024 .bf16) (acc : Vec Ideal S512x1024 .f32)
    (wd : Vec Ideal S1024x1024 .bf16) (r : Fin 512) (j : Fin 1024) :
    k0_pay2 h wu acc wd (ix2 r j)
      = acc (ix2 r j) + ∑ f : Fin 1024, hid (fun k => h (ix2 r k)) (fun k i => wu (ix2 k i)) f * wd (ix2 f j) := by
  pointwise [k0_pay2, hid]

theorem pay7_eq (h : FVec Ideal S512x1024 .bf16) (wu : Vec Ideal S1024x1024 .bf16) (acc : Vec Ideal S512x1024 .f32)
    (wd : Vec Ideal S1024x1024 .bf16) : k0_pay7 h wu acc wd = k0_pay2 h wu acc wd := rfl

theorem pay1_eq (h : FVec Ideal S512x1024 .bf16) (wu : Vec Ideal S1024x1024 .bf16) (acc : Vec Ideal S512x1024 .f32)
    (wd : Vec Ideal S1024x1024 .bf16) : k0_pay1 (k0_pay8 acc) (k0_pay9 h wu) wd = k0_pay2 h wu acc wd := rfl

theorem pay6_eq (x : Vec Ideal S512x1024 .f32) (yr yn : Vec Ideal S512x512 .bf16) (wa wb : Vec Ideal S512x1024 .bf16)
    (g : Vec Ideal S1x1024 .f32) (wu : Vec Ideal S1024x1024 .bf16) (acc : Vec Ideal S512x1024 .f32) (wd : Vec Ideal S1024x1024 .bf16) :
    k0_pay6 (k0_pay5 x yr wa yn wb g wu) acc wd = k0_pay2 (k0_pay4 x yr wa yn wb g) wu acc wd := rfl

/-- What the body leaves in the result block, from the blocks it was given: every row is `row` of the rows and the matrices. -/
theorem body_row (x : Vec Ideal S512x1024 .f32) (yr yn : Vec Ideal S512x512 .bf16) (wa wb : Vec Ideal S512x1024 .bf16)
    (g : Vec Ideal S1x1024 .f32) (wu : Vec Ideal S1024x4096 .bf16) (wd : Vec Ideal S4096x1024 .bf16) (r : Fin 512) (j : Fin 1024) :
    k0_pay2 (k0_pay4 x yr wa yn wb g) (View.ld wu (Rect.unit ![0, 3072] ![1024, 1024] inb_S1024x4096_S1024x1024_0_3072))
      (k0_pay2 (k0_pay4 x yr wa yn wb g) (View.ld wu (Rect.unit ![0, 2048] ![1024, 1024] inb_S1024x4096_S1024x1024_0_2048))
        (k0_pay2 (k0_pay4 x yr wa yn wb g) (View.ld wu (Rect.unit ![0, 1024] ![1024, 1024] inb_S1024x4096_S1024x1024_0_1024))
          (k0_pay2 (k0_pay4 x yr wa yn wb g) (View.ld wu (Rect.unit ![0, 0] ![1024, 1024] inb_S1024x4096_S1024x1024_0_0))
            (k0_pay3 x yr wa yn wb)
            (View.ld wd (Rect.unit ![0, 0] ![1024, 1024] inb_S4096x1024_S1024x1024_0_0)))
          (View.ld wd (Rect.unit ![1024, 0] ![1024, 1024] inb_S4096x1024_S1024x1024_1024_0)))
        (View.ld wd (Rect.unit ![2048, 0] ![1024, 1024] inb_S4096x1024_S1024x1024_2048_0)))
      (View.ld wd (Rect.unit ![3072, 0] ![1024, 1024] inb_S4096x1024_S1024x1024_3072_0)) (ix2 r j)
    = row (fun k => x (ix2 r k)) (fun k => yr (ix2 r k)) (fun k => yn (ix2 r k)) (fun k i => wa (ix2 k i)) (fun k i => wb (ix2 k i))
        (fun k => g (ix2 0 k)) (fun k f => wu (ix2 k f)) (fun f i => wd (ix2 f i)) j := by
  simp only [pay2_apply, pay3_apply, pay4_apply, row]
  rw [sum_four, ← add_assoc, ← add_assoc, ← add_assoc]
  pointwise [hid]

/-- The reference's result, row by row. -/
theorem ref_row (m : (ℓ : Loc Cert.Reference2Ideal.nD Cert.Reference2Ideal.τ Cert.Reference2Ideal.sig) → Buf (Elt Ideal) ℓ)
    (c : Dev nD) (r : Fin 65536) (j : Fin 1024) :
    Cert.Reference2Ideal.Value.res_out0 m c (ix2 r j)
      = row (fun k => m (c.tc.loc Cert.Reference2Ideal.main_arg0) (ix3 (⟨r.val / 2048, by omega⟩ : Fin 32) (⟨r.val % 2048, by omega⟩ : Fin 2048) k))
          (fun k => m (c.tc.loc Cert.Reference2Ideal.main_arg1) (ix3 (⟨r.val / 2048, by omega⟩ : Fin 32) (⟨r.val % 2048, by omega⟩ : Fin 2048) k))
          (fun k => m (c.tc.loc Cert.Reference2Ideal.main_arg2) (ix3 (⟨r.val / 2048, by omega⟩ : Fin 32) (⟨r.val % 2048, by omega⟩ : Fin 2048) k))
          (fun k i => m (c.tc.loc Cert.Reference2Ideal.main_arg3) (ix2 (⟨k.val, by omega⟩ : Fin 1024) i))
          (fun k i => m (c.tc.loc Cert.Reference2Ideal.main_arg3) (ix2 (⟨512 + k.val, by omega⟩ : Fin 1024) i))
          (fun k => m (c.tc.loc Cert.Reference2Ideal.main_arg4) (ix1 k))
          (fun k f => m (c.tc.loc Cert.Reference2Ideal.main_arg5) (ix2 k f))
          (fun f i => m (c.tc.loc Cert.Reference2Ideal.main_arg6) (ix2 f i)) j := by
  unfold Cert.Reference2Ideal.Value.res_out0 Cert.Reference2Ideal.Value.res_main_v22
  clean_types
  pointwise [row, hid, nrm, x1]

/-! ## What the windows' blocks hold -/

theorem blk0 (c : Dev nD) (t : Fin cfg0.N) (r : Fin 512) (k : Fin 1024) :
    iblk m c 0 t (ix2 r k) = m (c.tc.loc main_arg0) (ix3 (⟨(t.val * 512 + r.val) / 2048, by have := t.isLt; change _ < 128 at this; omega⟩ : Fin 32) (⟨(t.val * 512 + r.val) % 2048, by omega⟩ : Fin 2048) k) := by
  have ht : t.val < 128 := t.isLt
  have e := idx t
  blk_simp [iblk, e]
  entry_read
  pointwise
  blk_ext [e]

theorem blk1 (c : Dev nD) (t : Fin cfg0.N) (r : Fin 512) (k : Fin 512) :
    iblk m c 1 t (ix2 r k) = m (c.tc.loc main_arg1) (ix3 (⟨(t.val * 512 + r.val) / 2048, by have := t.isLt; change _ < 128 at this; omega⟩ : Fin 32) (⟨(t.val * 512 + r.val) % 2048, by omega⟩ : Fin 2048) k) := by
  have ht : t.val < 128 := t.isLt
  have e := idx t
  blk_simp [iblk, e]
  entry_read
  pointwise
  blk_ext [e]

theorem blk2 (c : Dev nD) (t : Fin cfg0.N) (r : Fin 512) (k : Fin 512) :
    iblk m c 2 t (ix2 r k) = m (c.tc.loc main_arg2) (ix3 (⟨(t.val * 512 + r.val) / 2048, by have := t.isLt; change _ < 128 at this; omega⟩ : Fin 32) (⟨(t.val * 512 + r.val) % 2048, by omega⟩ : Fin 2048) k) := by
  have ht : t.val < 128 := t.isLt
  have e := idx t
  blk_simp [iblk, e]
  entry_read
  pointwise
  blk_ext [e]

theorem blk3 (c : Dev nD) (t : Fin cfg0.N) (k : Fin 512) (i : Fin 1024) :
    iblk m c 3 t (ix2 k i) = m (c.tc.loc main_arg3) (ix2 (⟨k.val, by omega⟩ : Fin 1024) i) := by
  have ht : t.val < 128 := t.isLt
  have e := idx t
  blk_simp [iblk, e]
  entry_read
  pointwise
  blk_ext [e]

theorem blk4 (c : Dev nD) (t : Fin cfg0.N) (k : Fin 512) (i : Fin 1024) :
    iblk m c 4 t (ix2 k i) = m (c.tc.loc main_arg3) (ix2 (⟨512 + k.val, by omega⟩ : Fin 1024) i) := by
  have ht : t.val < 128 := t.isLt
  have e := idx t
  blk_simp [iblk, e]
  entry_read
  pointwise
  blk_ext [e]

theorem blk5 (c : Dev nD) (t : Fin cfg0.N) (k : Fin 1024) :
    iblk m c 5 t (ix2 (0 : Fin 1) k) = m (c.tc.loc main_arg4) (ix1 k) := by
  have ht : t.val < 128 := t.isLt
  have e := idx t
  blk_simp [iblk, e]
  entry_read
  pointwise
  blk_ext [e]

theorem blk6 (c : Dev nD) (t : Fin cfg0.N) (k : Fin 1024) (i : Fin 4096) :
    iblk m c 6 t (ix2 k i) = m (c.tc.loc main_arg5) (ix2 k i) := by
  have ht : t.val < 128 := t.isLt
  have e := idx t
  blk_simp [iblk, e]
  entry_read
  pointwise
  blk_ext [e]

theorem blk7 (c : Dev nD) (t : Fin cfg0.N) (k : Fin 4096) (i : Fin 1024) :
    iblk m c 7 t (ix2 k i) = m (c.tc.loc main_arg6) (ix2 k i) := by
  have ht : t.val < 128 := t.isLt
  have e := idx t
  blk_simp [iblk, e]
  entry_read
  pointwise
  blk_ext [e]

/-- The result array after the run is the reference's term over the same arguments. -/
theorem final (c : Dev nD) (m' : (ℓ : Loc Cert.Reference2Ideal.nD Cert.Reference2Ideal.τ Cert.Reference2Ideal.sig) → Buf (Elt Ideal) ℓ)
    (h0 : m' (c.tc.loc Cert.Reference2Ideal.main_arg0) = m (c.tc.loc main_arg0))
    (h1 : m' (c.tc.loc Cert.Reference2Ideal.main_arg1) = m (c.tc.loc main_arg1))
    (h2 : m' (c.tc.loc Cert.Reference2Ideal.main_arg2) = m (c.tc.loc main_arg2))
    (h3 : m' (c.tc.loc Cert.Reference2Ideal.main_arg3) = m (c.tc.loc main_arg3))
    (h4 : m' (c.tc.loc Cert.Reference2Ideal.main_arg4) = m (c.tc.loc main_arg4))
    (h5 : m' (c.tc.loc Cert.Reference2Ideal.main_arg5) = m (c.tc.loc main_arg5))
    (h6 : m' (c.tc.loc Cert.Reference2Ideal.main_arg6) = m (c.tc.loc main_arg6)) :
    (dats m 0 c).arrAt 8 (cfgs 0).N = Cert.Reference2Ideal.Value.res_out0 m' c := by
  refine (dats m 0 c).arrAt_eq_of_covers 8 _ (by decide +kernel) fun t _ y => ?_
  blk_simp
  rw [after0_8, outsAt0]
  frame_out
  rw [pay6_eq, pay7_eq, pay1_eq]
  obtain ⟨e0, e1, e2, e3, e4, e5, e6, e7, e8⟩ := idx t
  have ht : t.val < 128 := t.isLt
  obtain ⟨r, j, rfl⟩ : ∃ (r : Fin 512) (j : Fin 1024), y = ix2 r j := ⟨y 0, y 1, eq_ix2 y⟩
  have he : ((View.whole main_v9).slice (win0_8.rect t)).emb (ix2 r j) = ix2 (⟨t.val * 512 + r.val, by omega⟩ : Fin 65536) j := by
    blk_ext [e8]
  refine (body_row _ _ _ _ _ _ _ _ r j).trans (Eq.trans ?_ ((congrArg _ he).trans (ref_row m' c _ j)).symm)
  rw [h0, h1, h2, h3, h4, h5, h6]
  simp only [blk0, blk1, blk2, blk3, blk4, blk5, blk6, blk7]

end Cert.Kernel2Ideal.RefValue

end
-- ==== Proof.Claim2.lean ====
/-
The value claim about the output projection and the feed-forward part, put together from the two runs.
-/
module

public import proofs.«01_k».proof.Proof.OutFfn
public import proofs.«01_k».proof.Defs
public import proofs.«01_k».proof.Proof.Gen.Kernel2Ideal
public import proofs.«01_k».proof.Proof.Gen.Reference2Ideal

@[expose] public section

noncomputable section

namespace Cert.Proof

open Idealize.ShloMosaic Idealize.SL.Sem

/-- From equal arguments the kernel and the reference end with the same result. -/
theorem algebraic2 : Cert.algebraic_Kernel2Ideal_Reference2Ideal := by
  intro m g m' g' _ hag
  refine ⟨fun c => Cert.Reference2Ideal.Value.res_out0 m' c, ?_, Cert.Reference2Ideal.Value.run m' g'⟩
  refine (θ_run Cert.Kernel2Ideal.defs _ _).mono (fun _ h c => ⟨(h c).1.trans ?_, (h c).2⟩)
    (Cert.Kernel2Ideal.Value.run_blocks m g)
  obtain ⟨h0, h1, h2, h3, h4, h5, h6⟩ := hag c
  exact Cert.Kernel2Ideal.RefValue.final m c m' h0 h1 h2 h3 h4 h5 h6

end Cert.Proof

end
-- ==== Proof.Chunk.lean ====
/- One chunk of the retention recurrence as the first call's kernel computes it, read at an index. -/
module

public import proofs.«01_k».proof.Proof.Gen.KernelIdeal.Skeleton
public import Idealize.ShloMosaic.Lib.Pipeline.ValueKit
public import Idealize.ShloMosaic.Lib.Pointwise
public import Idealize.ShloMosaic.Lib.Tactic.CleanTypes

@[expose] public section

set_option maxRecDepth 16384

noncomputable section

namespace Cert.KernelIdeal.RefValue

open Cert.KernelIdeal Cert.KernelIdeal.Gen Idealize.ShloMosaic Idealize.ShloMosaic.TcCoe Idealize.SL.Sem

/-- The lane of coordinate `d` of head `h` among the 256 lanes of the four heads. -/
abbrev lane (h : Fin 4) (d : Fin 64) : Fin 256 := ⟨64 * h.val + d.val, by omega⟩

/-- A sum over the 256 lanes as the sum over the heads of the sums over their coordinates. -/
theorem sum_lanes (f : Fin 256 → EReal) : ∑ e, f e = ∑ h : Fin 4, ∑ d : Fin 64, f (lane h d) := by
  rw [← Finset.sum_product', Finset.univ_product_univ]
  refine (Fintype.sum_equiv (finProdFinEquiv (m := 4) (n := 64)) _ _ fun x => ?_).symm
  congr 1
  apply Fin.ext
  simp [finProdFinEquiv, lane, add_comm]

/-- A sum over the lanes of which only one head's lanes contribute. -/
theorem sum_head (h : Fin 4) (f : Fin 256 → EReal) (hf : ∀ h' d, h' ≠ h → f (lane h' d) = 0) :
    ∑ e, f e = ∑ d : Fin 64, f (lane h d) := by
  rw [sum_lanes, Finset.sum_eq_single h]
  · intro h' _ hne
    exact Finset.sum_eq_zero fun d _ => hf h' d hne
  · intro hh
    exact absurd (Finset.mem_univ h) hh

/-- The head number of every lane, as the kernel computes it. -/
def hd : IVec S128x256 32 := k0_pay67 k0_pay64 k0_pay65 k0_pay66

theorem hd_apply (r : Fin 128) (l : Fin 256) : hd (ix2 r l) = BitVec.ofNat 32 (l.val / 64) := by
  pointwise [hd, k0_pay67, k0_pay64, k0_pay65, k0_pay66]
  revert l
  decide +kernel

theorem ev_apply (r : Fin 128) (l : Fin 256) : k0_pay63 (ix2 r l) = if l.val % 2 = 0 then 1#1 else 0#1 := by
  pointwise [k0_pay63]
  revert l
  decide +kernel

/-- One head's masked scores times the decay table, applied to the head's masked values. -/
def headO (n : BitVec 32) (q k : FVec Ideal S128x256 .f32) (v : FVec Ideal S128x256 .bf16) (dm : Vec Ideal S1x128x128 .f32) : FVec Ideal S128x256 .f32 :=
  matmul dot_S128x128_S128x256_S128x256_1_0_0_1_n_n none
    (truncf .bf16 (mulf (matmul dot_S128x256_S128x256_S128x128_1_1_0_0_n_n none
      (select (cmpi .eq hd (broadcast S128x256 n)) (truncf .bf16 q bitsLt_bf16_f32) (broadcast S128x256 (Scalar.ofBits .bf16 0x0000#16)))
      (truncf .bf16 k bitsLt_bf16_f32) (constant S128x128 .f32 0x00000000#32)) (shapeCast S128x128 dm shapeCasts_S1x128x128_S128x128)) bitsLt_bf16_f32)
    (select (cmpi .eq hd (broadcast S128x256 n)) v (broadcast S128x256 (Scalar.ofBits .bf16 0x0000#16)))
    (constant S128x256 .f32 0x00000000#32)

/-- The part of a chunk's output that comes from the entering state. -/
def crossO (q : FVec Ideal S128x256 .f32) (st : Vec Ideal S256x256 .f32) (qd : Vec Ideal S128x256 .f32) : FVec Ideal S128x256 .f32 :=
  matmul dot_S128x256_S256x256_S128x256_1_0_0_1_n_n none
    (truncf .bf16 (mulf q (shapeCast S128x256 qd shapeCasts_S128x256_S128x256)) bitsLt_bf16_f32) (truncf .bf16 st bitsLt_bf16_f32)
    (constant S128x256 .f32 0x00000000#32)

/-- The chunk's output before its normalization: the four heads' sums and the part from the entering state. -/
def chunkO (q k : FVec Ideal S128x256 .f32) (v : FVec Ideal S128x256 .bf16) (d0 d1 d2 d3 : Vec Ideal S1x128x128 .f32)
    (st : Vec Ideal S256x256 .f32) (qd : Vec Ideal S128x256 .f32) : FVec Ideal S128x256 .f32 :=
  addf (addf (addf (addf (addf (broadcast S128x256 (Scalar.ofBits .f32 0x00000000#32)) (headO 0#32 q k v d0)) (headO 1#32 q k v d1)) (headO 2#32 q k v d2)) (headO 3#32 q k v d3))
    (crossO q st qd)

theorem chunkO_split (q k : FVec Ideal S128x256 .f32) (v : FVec Ideal S128x256 .bf16) (d0 d1 d2 d3 : Vec Ideal S1x128x128 .f32)
    (st : Vec Ideal S256x256 .f32) (qd : Vec Ideal S128x256 .f32) (i : S128x256.Idx) :
    chunkO q k v d0 d1 d2 d3 st qd i
      = headO 0#32 q k v d0 i + headO 1#32 q k v d1 i + headO 2#32 q k v d2 i + headO 3#32 q k v d3 i + crossO q st qd i := by
  pointwise [chunkO]

/-- A word test for a head's number. -/
theorem sel_head {α : Type} (h' h : Fin 4) (d : Fin 64) (a b : α) :
    Scalar.select (IntOp.cmpi CmpIPredicate.eq (BitVec.ofNat 32 ((64 * h'.val + d.val) / 64)) (BitVec.ofNat 32 h.val)) a b
      = if h' = h then a else b := by
  have e : (64 * h'.val + d.val) / 64 = h'.val := by omega
  rw [e]
  have : (IntOp.cmpi CmpIPredicate.eq (BitVec.ofNat 32 h'.val) (BitVec.ofNat 32 h.val) = 1#1) ↔ h' = h := by
    clear e
    revert h h'
    decide
  by_cases hh : h' = h
  · rw [if_pos hh]
    exact if_pos (this.2 hh)
  · rw [if_neg hh]
    exact if_neg fun hc => hh (this.1 hc)

/-- The masked head's part at a lane of the head. -/
theorem headO_apply (h : Fin 4) (q k : FVec Ideal S128x256 .f32) (v : FVec Ideal S128x256 .bf16) (dm : Vec Ideal S1x128x128 .f32) (r : Fin 128) (h' : Fin 4) (d : Fin 64) :
    headO (BitVec.ofNat 32 h.val) q k v dm (ix2 r (lane h' d))
      = if h' = h then ∑ m : Fin 128, (∑ e : Fin 64, q (ix2 r (lane h e)) * k (ix2 m (lane h e))) * dm (ix3 0 r m) * v (ix2 m (lane h d)) else 0 := by
  pointwise [headO]
  simp only [hd_apply, sel_head]
  by_cases hh : h' = h
  · subst hh
    simp only [if_true]
    refine Finset.sum_congr rfl fun m _ => ?_
    rw [sum_head h']
    · simp only [sel_head, if_true]
    · intro h2 d2 hne
      rw [sel_head, if_neg hne]
  · simp only [if_neg hh, Finset.sum_const_zero]

/-- The chunk's output at a lane: the causal part within the chunk and the part from the entering state. -/
theorem chunkO_apply (q k : FVec Ideal S128x256 .f32) (v : FVec Ideal S128x256 .bf16) (dm : Fin 4 → Vec Ideal S1x128x128 .f32)
    (st : Vec Ideal S256x256 .f32) (qd : Vec Ideal S128x256 .f32) (r : Fin 128) (h : Fin 4) (d : Fin 64)
    (hst : ∀ h' e, h' ≠ h → st (ix2 (lane h' e) (lane h d)) = 0) :
    chunkO q k v (dm 0) (dm 1) (dm 2) (dm 3) st qd (ix2 r (lane h d))
      = ∑ m : Fin 128, (∑ e : Fin 64, q (ix2 r (lane h e)) * k (ix2 m (lane h e))) * dm h (ix3 0 r m) * v (ix2 m (lane h d))
        + ∑ e : Fin 64, q (ix2 r (lane h e)) * qd (ix2 r (lane h e)) * st (ix2 (lane h e) (lane h d)) := by
  have e0 : headO 0#32 q k v (dm 0) (ix2 r (lane h d)) = _ := headO_apply 0 q k v (dm 0) r h d
  have e1 : headO 1#32 q k v (dm 1) (ix2 r (lane h d)) = _ := headO_apply 1 q k v (dm 1) r h d
  have e2 : headO 2#32 q k v (dm 2) (ix2 r (lane h d)) = _ := headO_apply 2 q k v (dm 2) r h d
  have e3 : headO 3#32 q k v (dm 3) (ix2 r (lane h d)) = _ := headO_apply 3 q k v (dm 3) r h d
  have ec : crossO q st qd (ix2 r (lane h d)) = ∑ e : Fin 64, q (ix2 r (lane h e)) * qd (ix2 r (lane h e)) * st (ix2 (lane h e) (lane h d)) := by
    pointwise [crossO]
    exact sum_head h _ fun h' e hne => by rw [hst h' e hne, mul_zero]
  rw [chunkO_split, e0, e1, e2, e3, ec]
  congr 1
  fin_cases h <;> simp

/-- The state after the chunk. -/
def chunkS (k : FVec Ideal S128x256 .f32) (v : FVec Ideal S128x256 .bf16) (st : Vec Ideal S256x256 .f32) (kd : Vec Ideal S128x256 .f32)
    (sd bm : Vec Ideal S256x256 .f32) : FVec Ideal S256x256 .f32 :=
  shapeCast S256x256 (addf (mulf st (shapeCast S256x256 sd shapeCasts_S256x256_S256x256))
    (mulf (matmul dot_S128x256_S128x256_S256x256_0_0_1_1_n_n none
      (truncf .bf16 (mulf k (shapeCast S128x256 kd shapeCasts_S128x256_S128x256)) bitsLt_bf16_f32) v (constant S256x256 .f32 0x00000000#32)) bm))
    shapeCasts_S256x256_S256x256

theorem chunkS_apply (k : FVec Ideal S128x256 .f32) (v : FVec Ideal S128x256 .bf16) (st : Vec Ideal S256x256 .f32) (kd : Vec Ideal S128x256 .f32)
    (sd bm : Vec Ideal S256x256 .f32) (a b : Fin 256) :
    chunkS k v st kd sd bm (ix2 a b)
      = st (ix2 a b) * sd (ix2 a b) + (∑ m : Fin 128, k (ix2 m a) * kd (ix2 m a) * v (ix2 m b)) * bm (ix2 a b) := by
  pointwise [chunkS]

/-- A chunk's rows turned by their angles: each lane times the cosine plus its pair's other lane times the signed sine. -/
def rot (z : FVec Ideal S128x256 .f32) (cs sn : Vec Ideal S128x256 .f32) : FVec Ideal S128x256 .f32 :=
  addf (mulf z (shapeCast S128x256 cs shapeCasts_S128x256_S128x256))
    (mulf (select k0_pay63 (dynamicRotate 1 255#32 none z rotates_S128x256_d1) (dynamicRotate 1 1#32 none z rotates_S128x256_d1))
      (shapeCast S128x256 sn shapeCasts_S128x256_S128x256))

theorem rot_apply_even (z : FVec Ideal S128x256 .f32) (cs sn : Vec Ideal S128x256 .f32) (r : Fin 128) (p : Fin 128) :
    rot z cs sn (ix2 r ⟨2 * p.val, by omega⟩) = z (ix2 r ⟨2 * p.val, by omega⟩) * cs (ix2 r ⟨2 * p.val, by omega⟩)
      + z (ix2 r ⟨2 * p.val + 1, by omega⟩) * sn (ix2 r ⟨2 * p.val, by omega⟩) := by
  pointwise [rot]
  simp only [ev_apply]
  rw [if_pos (by omega : 2 * p.val % 2 = 0)]
  have e : (2 * p.val + 256 - 255) % 256 = 2 * p.val + 1 := by omega
  simp only [e]
  rfl

theorem rot_apply_odd (z : FVec Ideal S128x256 .f32) (cs sn : Vec Ideal S128x256 .f32) (r : Fin 128) (p : Fin 128) :
    rot z cs sn (ix2 r ⟨2 * p.val + 1, by omega⟩) = z (ix2 r ⟨2 * p.val + 1, by omega⟩) * cs (ix2 r ⟨2 * p.val + 1, by omega⟩)
      + z (ix2 r ⟨2 * p.val, by omega⟩) * sn (ix2 r ⟨2 * p.val + 1, by omega⟩) := by
  pointwise [rot]
  simp only [ev_apply]
  rw [if_neg (by omega : ¬(2 * p.val + 1) % 2 = 0)]
  have e : (2 * p.val + 1 + 256 - 1) % 256 = 2 * p.val := by omega
  simp only [e]
  rfl

/-- A chunk's normalized and gated output. -/
def chunkN (bd : FVec Ideal S256x256 .bf16) (g o : FVec Ideal S128x256 .f32) : FVec Ideal S128x256 .bf16 :=
  truncf .bf16 (mulf (mulf g (logistic g)) (mulf o (rsqrt (addf
    (matmul dot_S128x256_S256x256_S128x256_1_0_0_1_n_n none (truncf .bf16 (mulf o o) bitsLt_bf16_f32) bd (constant S128x256 .f32 0x00000000#32))
    (broadcast S128x256 (Scalar.ofBits .f32 0x358637BD#32)))))) bitsLt_bf16_f32

theorem chunkN_apply (bd : FVec Ideal S256x256 .bf16) (g o : FVec Ideal S128x256 .f32) (r : Fin 128) (l : Fin 256) :
    chunkN bd g o (ix2 r l) = g (ix2 r l) * Ideal.logistic (g (ix2 r l))
      * (o (ix2 r l) * Ideal.rsqrt (∑ x, o (ix2 r x) * o (ix2 r x) * bd (ix2 x l) + Ideal.ofBits FTy.f32 0x358637BD#32)) := by
  pointwise [chunkN]

/-- A factor common to a sum of terms that are not negative. -/
theorem sum_times (c : EReal) {n : ℕ} (f : Fin n → EReal) (hf : ∀ e, 0 ≤ f e) : ∑ e, f e * c = (∑ e, f e) * c := by
  induction n with
  | zero => simp
  | succ n ih =>
    rw [Fin.sum_univ_castSucc, Fin.sum_univ_castSucc, ih _ fun e => hf _]
    exact (EReal.right_distrib_of_nonneg (Finset.sum_nonneg fun e _ => hf _) (hf _)).symm

theorem c64th : Ideal.ofBits .f32 0x3C800000#32 = (((1 : ℝ) / 64 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

/-- A square is not negative. -/
theorem sq_nonneg' (x : EReal) : 0 ≤ x * x := by
  rcases le_total 0 x with h | h
  · exact mul_nonneg h h
  · rw [← neg_mul_neg]
    have : 0 ≤ -x := EReal.neg_nonneg.2 h
    exact mul_nonneg this this

/-- A head's mean square as the kernel takes it: the squares through a column that holds 1/64 on the head's lanes. -/
theorem group_mean (h : Fin 4) (f : Fin 256 → EReal) (w : Fin 256 → EReal) (hw : ∀ h' e, w (lane h' e) = if h' = h then Ideal.ofBits .f32 0x3C800000#32 else 0) :
    ∑ x, f x * f x * w x = Ideal.div (∑ e : Fin 64, f (lane h e) * f (lane h e)) (Ideal.ofBits .f32 0x42800000#32) := by
  rw [sum_head h]
  · simp only [hw, if_true]
    rw [sum_times _ (fun e => f (lane h e) * f (lane h e)) fun e => sq_nonneg' _]
    rw [c64, c64th, Ideal.div, if_neg (by norm_num), ← EReal.coe_inv]
    norm_num
  · intro h' e hne
    rw [hw, if_neg hne, mul_zero]

end Cert.KernelIdeal.RefValue

end
-- ==== Proof.Tile.lean ====
/- The chunks of one tile of the first call's kernel: their rows cut from the tile's projection, and one step of the recurrence read at an index. -/
module

public import proofs.«01_k».proof.Proof.Chunk

@[expose] public section

set_option maxRecDepth 16384

noncomputable section

namespace Cert.KernelIdeal.RefValue

open Cert.KernelIdeal Cert.KernelIdeal.Gen Idealize.ShloMosaic Idealize.ShloMosaic.TcCoe Idealize.SL.Sem

theorem slc (R C : ℕ) (hR : R + 128 ≤ 1024) (hC : C + 256 ≤ 3200) : S1024x3200.Slices ![R, C] S128x256 :=
  ⟨rfl, fun a => by fin_cases a; exacts [hR, hC]⟩

theorem inbR (R : ℕ) (hR : R + 128 ≤ 1024) : ∀ a, (![R, 0] : Fin 2 → Nat) a + S128x256.size a ≤ S1024x256.size a := fun a => by
  fin_cases a
  · exact hR
  · exact le_refl 256

/-- 128 rows and 256 columns of the tile's projection. -/
def zc (Z : FVec Ideal S1024x3200 .f32) (R C : ℕ) (hR : R + 128 ≤ 1024) (hC : C + 256 ≤ 3200) : FVec Ideal S128x256 .f32 :=
  extractStridedSlice S128x256 ![R, C] Z (slc R C hR hC)

theorem zc_apply (Z : FVec Ideal S1024x3200 .f32) (R C : ℕ) (hR : R + 128 ≤ 1024) (hC : C + 256 ≤ 3200) (r : Fin 128) (l : Fin 256) :
    zc Z R C hR hC (ix2 r l) = Z (ix2 ⟨R + r.val, by omega⟩ ⟨C + l.val, by omega⟩) := by
  pointwise [zc]

/-- 128 rows of a table of the tile's rows. -/
def tb (T : Vec Ideal S1024x256 .f32) (R : ℕ) (hR : R + 128 ≤ 1024) : Vec Ideal S128x256 .f32 :=
  View.ld T (Rect.unit ![R, 0] ![128, 256] (inbR R hR))

theorem tb_apply (T : Vec Ideal S1024x256 .f32) (R : ℕ) (hR : R + 128 ≤ 1024) (r : Fin 128) (l : Fin 256) :
    tb T R hR (ix2 r l) = T (ix2 ⟨R + r.val, by omega⟩ l) := by
  pointwise [tb]

/-- A head's table of the four. -/
def dl (D : Vec Ideal S4x128x128 .f32) (h : Fin 4) : Vec Ideal S1x128x128 .f32 :=
  View.ld D (Rect.unit ![h.val, 0, 0] ![1, 128, 128] (fun a => by
    fin_cases a
    · exact (show h.val + 1 ≤ 4 by omega)
    · exact le_refl 128
    · exact le_refl 128))

theorem dl_apply (D : Vec Ideal S4x128x128 .f32) (h : Fin 4) (r m : Fin 128) : dl D h (ix3 0 r m) = D (ix3 h r m) := by
  pointwise [dl]

variable (Z : FVec Ideal S1024x3200 .f32) (T U : Vec Ideal S1024x256 .f32) (R : ℕ) (hR : R + 128 ≤ 1024)

/-- The chunk's queries, keys, values and gates. -/
def qOf : FVec Ideal S128x256 .f32 := rot (zc Z R 1408 hR (by omega)) (tb T R hR) (tb U R hR)
def kOf : FVec Ideal S128x256 .f32 :=
  mulf (rot (zc Z R 1664 hR (by omega)) (tb T R hR) (tb U R hR)) (broadcast S128x256 (Scalar.ofBits .f32 0x3E000000#32))
def vOf : FVec Ideal S128x256 .bf16 := truncf .bf16 (zc Z R 1920 hR (by omega)) bitsLt_bf16_f32
def gOf : FVec Ideal S128x256 .f32 := zc Z R 2176 hR (by omega)

/-- An entry turned by its angle, its pair's other entry after it or before it. -/
theorem rot_cut_even (C : ℕ) (hC : C + 256 ≤ 3200) (r : Fin 128) (h : Fin 4) (p : Fin 32) :
    rot (zc Z R C hR hC) (tb T R hR) (tb U R hR) (ix2 r (lane h ⟨2 * p.val, by omega⟩))
      = Z (ix2 ⟨R + r.val, by omega⟩ ⟨C + (64 * h.val + 2 * p.val), by omega⟩) * T (ix2 ⟨R + r.val, by omega⟩ (lane h ⟨2 * p.val, by omega⟩))
        + Z (ix2 ⟨R + r.val, by omega⟩ ⟨C + (64 * h.val + (1 + 2 * p.val)), by omega⟩) * U (ix2 ⟨R + r.val, by omega⟩ (lane h ⟨2 * p.val, by omega⟩)) := by
  have e : (lane h ⟨2 * p.val, by omega⟩ : Fin 256) = ⟨2 * (⟨32 * h.val + p.val, by omega⟩ : Fin 128).val, by simp only; omega⟩ :=
    Fin.ext (by simp only [lane]; omega)
  have f : (⟨C + (64 * h.val + (1 + 2 * p.val)), by omega⟩ : Fin 3200) = ⟨C + (2 * (32 * h.val + p.val) + 1), by omega⟩ := Fin.ext (by simp only; omega)
  have g : (⟨C + (64 * h.val + 2 * p.val), by omega⟩ : Fin 3200) = ⟨C + 2 * (32 * h.val + p.val), by omega⟩ := Fin.ext (by simp only; omega)
  rw [e, f, g, rot_apply_even, zc_apply, zc_apply, tb_apply, tb_apply]

theorem rot_cut_odd (C : ℕ) (hC : C + 256 ≤ 3200) (r : Fin 128) (h : Fin 4) (p : Fin 32) :
    rot (zc Z R C hR hC) (tb T R hR) (tb U R hR) (ix2 r (lane h ⟨2 * p.val + 1, by omega⟩))
      = Z (ix2 ⟨R + r.val, by omega⟩ ⟨C + (64 * h.val + (2 * p.val + 1)), by omega⟩) * T (ix2 ⟨R + r.val, by omega⟩ (lane h ⟨2 * p.val + 1, by omega⟩))
        + Z (ix2 ⟨R + r.val, by omega⟩ ⟨C + (64 * h.val + 2 * p.val), by omega⟩) * U (ix2 ⟨R + r.val, by omega⟩ (lane h ⟨2 * p.val + 1, by omega⟩)) := by
  have e : (lane h ⟨2 * p.val + 1, by omega⟩ : Fin 256) = ⟨2 * (⟨32 * h.val + p.val, by omega⟩ : Fin 128).val + 1, by simp only; omega⟩ :=
    Fin.ext (by simp only [lane]; omega)
  have f : (⟨C + (64 * h.val + (2 * p.val + 1)), by omega⟩ : Fin 3200) = ⟨C + (2 * (32 * h.val + p.val) + 1), by omega⟩ := Fin.ext (by simp only; omega)
  have g : (⟨C + (64 * h.val + 2 * p.val), by omega⟩ : Fin 3200) = ⟨C + 2 * (32 * h.val + p.val), by omega⟩ := Fin.ext (by simp only; omega)
  rw [e, f, g, rot_apply_odd, zc_apply, zc_apply, tb_apply, tb_apply]

theorem kOf_apply (r : Fin 128) (l : Fin 256) :
    kOf Z T U R hR (ix2 r l) = rot (zc Z R 1664 hR (by omega)) (tb T R hR) (tb U R hR) (ix2 r l) * Ideal.ofBits FTy.f32 0x3E000000#32 := by
  pointwise [kOf]

theorem vOf_apply (r : Fin 128) (l : Fin 256) :
    vOf Z R hR (ix2 r l) = Z (ix2 ⟨R + r.val, by omega⟩ ⟨1920 + l.val, by omega⟩) := by
  pointwise [vOf]
  rw [zc_apply]

theorem gOf_apply (r : Fin 128) (l : Fin 256) :
    gOf Z R hR (ix2 r l) = Z (ix2 ⟨R + r.val, by omega⟩ ⟨2176 + l.val, by omega⟩) := by
  rw [gOf, zc_apply]

/-- The state after the chunk, of the tile's projection and tables. -/
def stStep (kd : Vec Ideal S128x256 .f32) (sd bm st : Vec Ideal S256x256 .f32) : FVec Ideal S256x256 .f32 :=
  chunkS (kOf Z T U R hR) (vOf Z R hR) st kd sd bm

/-- The chunk's normalized and gated output, of the tile's projection and tables. -/
def nOf (bd : FVec Ideal S256x256 .bf16) (D : Vec Ideal S4x128x128 .f32) (st : Vec Ideal S256x256 .f32) (qd : Vec Ideal S128x256 .f32) : FVec Ideal S128x256 .bf16 :=
  chunkN bd (gOf Z R hR) (chunkO (qOf Z T U R hR) (kOf Z T U R hR) (vOf Z R hR) (dl D 0) (dl D 1) (dl D 2) (dl D 3) st qd)

/-- One step of the state: from a state made of the heads' own blocks to the next one. -/
theorem step_ok (k : FVec Ideal S128x256 .f32) (v : FVec Ideal S128x256 .bf16) (st : Vec Ideal S256x256 .f32) (kd : Vec Ideal S128x256 .f32)
    (sd bm : Vec Ideal S256x256 .f32) (K V : Fin 128 → Fin 4 → Fin 64 → EReal) (KD : Fin 4 → Fin 128 → EReal) (ST : Fin 4 → Fin 64 → Fin 64 → EReal)
    (CD : Fin 4 → EReal)
    (hk : ∀ m h d, k (ix2 m (lane h d)) = K m h d) (hv : ∀ m h d, v (ix2 m (lane h d)) = V m h d)
    (hkd : ∀ m h d, kd (ix2 m (lane h d)) = KD h m)
    (hsd : ∀ h d h' e, sd (ix2 (lane h d) (lane h' e)) = if h = h' then CD h else 0)
    (hbm : ∀ h d h' e, bm (ix2 (lane h d) (lane h' e)) = if h = h' then 1 else 0)
    (hst : ∀ h d h' e, st (ix2 (lane h d) (lane h' e)) = if h = h' then ST h d e else 0) (h : Fin 4) (d : Fin 64) (h' : Fin 4) (e : Fin 64) :
    chunkS k v st kd sd bm (ix2 (lane h d) (lane h' e))
      = if h = h' then ST h d e * CD h + ∑ m : Fin 128, K m h d * KD h m * V m h e else 0 := by
  rw [chunkS_apply, hst, hsd, hbm]
  by_cases hh : h = h'
  · subst hh
    simp only [if_true, mul_one, hk, hv, hkd]
  · simp only [if_neg hh, mul_zero, add_zero]

/-- The chunk's output, of the heads' own queries, keys, values and state. -/
theorem out_ok (bd : FVec Ideal S256x256 .bf16) (g q k : FVec Ideal S128x256 .f32) (v : FVec Ideal S128x256 .bf16) (D : Vec Ideal S4x128x128 .f32)
    (st : Vec Ideal S256x256 .f32) (qd : Vec Ideal S128x256 .f32)
    (Q K V G : Fin 128 → Fin 4 → Fin 64 → EReal) (QD : Fin 4 → Fin 128 → EReal) (ST : Fin 4 → Fin 64 → Fin 64 → EReal) (DM : Fin 4 → Fin 128 → Fin 128 → EReal)
    (hq : ∀ m h d, q (ix2 m (lane h d)) = Q m h d) (hk : ∀ m h d, k (ix2 m (lane h d)) = K m h d) (hv : ∀ m h d, v (ix2 m (lane h d)) = V m h d)
    (hg : ∀ m h d, g (ix2 m (lane h d)) = G m h d) (hqd : ∀ m h d, qd (ix2 m (lane h d)) = QD h m)
    (hD : ∀ h r m, D (ix3 h r m) = DM h r m)
    (hst : ∀ h d h' e, st (ix2 (lane h d) (lane h' e)) = if h = h' then ST h d e else 0)
    (hbd : ∀ h d h' e, bd (ix2 (lane h d) (lane h' e)) = if h = h' then Ideal.ofBits .f32 0x3C800000#32 else 0)
    (O : Fin 128 → Fin 4 → Fin 64 → EReal)
    (hO : ∀ r h e, O r h e = ∑ m : Fin 128, (∑ x : Fin 64, Q r h x * K m h x) * DM h r m * V m h e + ∑ x : Fin 64, Q r h x * QD h r * ST h x e)
    (r : Fin 128) (h : Fin 4) (e : Fin 64) :
    chunkN bd g (chunkO q k v (dl D 0) (dl D 1) (dl D 2) (dl D 3) st qd) (ix2 r (lane h e))
      = G r h e * Ideal.logistic (G r h e)
        * (O r h e * Ideal.rsqrt (Ideal.div (∑ x : Fin 64, O r h x * O r h x) (Ideal.ofBits .f32 0x42800000#32) + Ideal.ofBits FTy.f32 0x358637BD#32)) := by
  have ho : ∀ h e, chunkO q k v (dl D 0) (dl D 1) (dl D 2) (dl D 3) st qd (ix2 r (lane h e)) = O r h e := fun h e => by
    rw [chunkO_apply q k v (dl D) st qd r h e fun h' e' hne => by rw [hst, if_neg hne], hO]
    simp only [hq, hk, hv, hqd, hst, dl_apply, hD, if_true]
  rw [chunkN_apply, group_mean h (fun x => chunkO q k v (dl D 0) (dl D 1) (dl D 2) (dl D 3) st qd (ix2 r x)) (fun x => bd (ix2 x (lane h e)))
    fun h' e' => hbd h' e' h e]
  simp only [ho, hg]

end Cert.KernelIdeal.RefValue

end
-- ==== Proof.Outs.lean ====
/- What one point of the first call's grid leaves in its outputs and its carried scratch, in the chunks' own terms. -/
module

public import proofs.«01_k».proof.Proof.Tile
public import proofs.«01_k».proof.Proof.Gen.KernelIdeal.Value
public import Idealize.ShloMosaic.Lib.Pipeline.ReadBack
public import Idealize.ShloMosaic.Lib.Pipeline.ValueKit

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)

/-- The state before each chunk of a tile, from the state the tile begins with. -/
def stAt (Z : FVec Ideal S1024x3200 .f32) (T U : Vec Ideal S1024x256 .f32) (kd : Vec Ideal S128x256 .f32) (sd bm st : Vec Ideal S256x256 .f32) :
    (n : ℕ) → n ≤ 8 → Vec Ideal S256x256 .f32
  | 0, _ => st
  | n + 1, h => stStep Z T U (128 * n) (by omega) kd sd bm (stAt Z T U kd sd bm st n (by omega))

theorem canon_at {A B : ℕ} {e : EltTy} {R C a b : ℕ} (inb : ∀ k, (![R, C] : Fin 2 → ℕ) k + (![a, b] : Fin 2 → ℕ) k ≤ (⟨2, ![A, B]⟩ : Shape).size k)
    (w : (Rect.unit (s := ⟨2, ![A, B]⟩) ![R, C] ![a, b] inb).shape.Idx → Elt Ideal e) (L : List (View.Piece (Elt Ideal) ⟨2, ![A, B]⟩ e))
    (y : (⟨2, ![A, B]⟩ : Shape).Idx) (i : Fin a) (j : Fin b) (h0 : (y 0).val = R + i.val) (h1 : (y 1).val = C + j.val) :
    View.canon (⟨Rect.unit ![R, C] ![a, b] inb, w⟩ :: L) y = w (ix2 i j) := by
  have e : y = (Rect.unit (s := ⟨2, ![A, B]⟩) ![R, C] ![a, b] inb).emb (ix2 i j) := by
    funext k
    apply Fin.ext
    rw [Rect.emb_apply]
    fin_cases k
    · exact h0.trans (by simp [Rect.unit])
    · exact h1.trans (by simp [Rect.unit])
  rw [e]
  exact View.canon_cons_emb _ _ _ _

theorem canon_skip {A B : ℕ} {e : EltTy} {R C a b : ℕ} (inb : ∀ k, (![R, C] : Fin 2 → ℕ) k + (![a, b] : Fin 2 → ℕ) k ≤ (⟨2, ![A, B]⟩ : Shape).size k)
    (w : (Rect.unit (s := ⟨2, ![A, B]⟩) ![R, C] ![a, b] inb).shape.Idx → Elt Ideal e) (L : List (View.Piece (Elt Ideal) ⟨2, ![A, B]⟩ e))
    (y : (⟨2, ![A, B]⟩ : Shape).Idx) (h : (y 0).val < R ∨ R + a ≤ (y 0).val ∨ (y 1).val < C ∨ C + b ≤ (y 1).val) :
    View.canon (⟨Rect.unit ![R, C] ![a, b] inb, w⟩ :: L) y = View.canon L y := by
  refine View.canon_cons_of_not_mem _ _ fun hm => ?_
  rw [Rect.mem_set_unit] at hm
  have h0 : R ≤ (y 0).val ∧ (y 0).val < R + a := hm 0
  have h1 : C ≤ (y 1).val ∧ (y 1).val < C + b := hm 1
  omega

theorem inb14 (R : ℕ) (hR : R + 128 ≤ 1024) : ∀ a, (![R, 0] : Fin 2 → Nat) a + S128x256.size a ≤ S1024x512.size a := fun a => by
  fin_cases a
  · exact hR
  · exact (by decide : 0 + 256 ≤ 512)

/-- A chunk's rows of the left half of the block, and the right half of the block. -/
abbrev pcL (R : ℕ) (hR : R + 128 ≤ 1024) (w : FVec Ideal S128x256 .bf16) : View.Piece (Elt Ideal) S1024x512 .bf16 :=
  ⟨Rect.unit ![R, 0] ![128, 256] (inb14 R hR), w⟩
abbrev pcR (w : FVec Ideal S1024x256 .bf16) : View.Piece (Elt Ideal) S1024x512 .bf16 :=
  ⟨Rect.unit ![0, 256] ![1024, 256] inb_S1024x512_S1024x256_0_256, w⟩

/-- The block put together from its eight chunks on the left and one piece on the right. -/
def tiles14 (P : FVec Ideal S1024x256 .bf16) (N : Fin 8 → FVec Ideal S128x256 .bf16) : Vec Ideal S1024x512 .bf16 :=
  View.canon [pcR P, pcL 896 (by omega) (N 7), pcL 768 (by omega) (N 6), pcL 640 (by omega) (N 5), pcL 512 (by omega) (N 4),
    pcL 384 (by omega) (N 3), pcL 256 (by omega) (N 2), pcL 128 (by omega) (N 1), pcL 0 (by omega) (N 0)]

theorem tiles14_right (P : FVec Ideal S1024x256 .bf16) (N : Fin 8 → FVec Ideal S128x256 .bf16) (r : Fin 1024) (l : Fin 256) :
    tiles14 P N (ix2 r ⟨256 + l.val, by omega⟩) = P (ix2 r l) :=
  canon_at _ _ _ _ r l (Nat.zero_add _).symm rfl

theorem tiles14_left (P : FVec Ideal S1024x256 .bf16) (N : Fin 8 → FVec Ideal S128x256 .bf16) (n : Fin 8) (r : Fin 128) (l : Fin 256) :
    tiles14 P N (ix2 ⟨128 * n.val + r.val, by omega⟩ ⟨l.val, by omega⟩) = N n (ix2 r l) := by
  refine (canon_skip _ _ _ _ (.inr (.inr (.inl l.isLt)))).trans ?_
  fin_cases n
  · iterate 7 refine (canon_skip _ _ _ _ (.inl (by show 128 * 0 + r.val < _; omega))).trans ?_
    exact canon_at _ _ _ _ r l rfl (Nat.zero_add _).symm
  · iterate 6 refine (canon_skip _ _ _ _ (.inl (by show 128 * 1 + r.val < _; omega))).trans ?_
    exact canon_at _ _ _ _ r l rfl (Nat.zero_add _).symm
  · iterate 5 refine (canon_skip _ _ _ _ (.inl (by show 128 * 2 + r.val < _; omega))).trans ?_
    exact canon_at _ _ _ _ r l rfl (Nat.zero_add _).symm
  · iterate 4 refine (canon_skip _ _ _ _ (.inl (by show 128 * 3 + r.val < _; omega))).trans ?_
    exact canon_at _ _ _ _ r l rfl (Nat.zero_add _).symm
  · iterate 3 refine (canon_skip _ _ _ _ (.inl (by show 128 * 4 + r.val < _; omega))).trans ?_
    exact canon_at _ _ _ _ r l rfl (Nat.zero_add _).symm
  · iterate 2 refine (canon_skip _ _ _ _ (.inl (by show 128 * 5 + r.val < _; omega))).trans ?_
    exact canon_at _ _ _ _ r l rfl (Nat.zero_add _).symm
  · iterate 1 refine (canon_skip _ _ _ _ (.inl (by show 128 * 6 + r.val < _; omega))).trans ?_
    exact canon_at _ _ _ _ r l rfl (Nat.zero_add _).symm
  · exact canon_at _ _ _ _ r l rfl (Nat.zero_add _).symm

/-- Blocks of 128 columns side by side. -/
def colL {A B : ℕ} {e : EltTy} (N : ℕ → Vec Ideal ⟨2, ![A, 128]⟩ e) : (n : ℕ) → 128 * n ≤ B → List (View.Piece (Elt Ideal) ⟨2, ![A, B]⟩ e)
  | 0, _ => []
  | n + 1, h => ⟨Rect.unit ![0, 128 * n] ![A, 128] (fun a => by
      fin_cases a
      · exact (Nat.zero_add A).le
      · exact (show 128 * n + 128 ≤ B by omega)), N n⟩ :: colL N n (by omega)

theorem colL_apply {A B : ℕ} {e : EltTy} (N : ℕ → Vec Ideal ⟨2, ![A, 128]⟩ e) (k : ℕ) (i : Fin A) (j : Fin 128) (y : (⟨2, ![A, B]⟩ : Shape).Idx)
    (y0 : (y 0).val = i.val) (y1 : (y 1).val = 128 * k + j.val) :
    ∀ (n : ℕ) (h : 128 * n ≤ B), k < n → View.canon (colL N n h) y = N k (ix2 i j) := by
  intro n
  induction n with
  | zero => intro h hk; omega
  | succ n ih =>
    intro h hk
    by_cases hn : k = n
    · subst hn
      exact canon_at _ _ _ _ i j (y0.trans (Nat.zero_add _).symm) y1
    · exact (canon_skip _ _ _ _ (.inr (.inr (.inl (by omega))))).trans (ih (by omega) (by omega))

variable (m : (ℓ : Loc nD τ sig) → Buf (Elt Ideal) ℓ)

/-- The projection of point `t`'s rows. -/
abbrev zT (c : Dev nD) (t : Fin cfg0.N) : FVec Ideal S1024x3200 .f32 := k0_pay6 (iblk m c 0 t) (iblk m c 1 t) (iblk m c 2 t)

/-- The state before chunk `n` of point `t`, from the state the point begins with. -/
abbrev stT (c : Dev nD) (t : Fin cfg0.N) (st : Vec Ideal S256x256 .f32) (n : ℕ) (hn : n ≤ 8) : Vec Ideal S256x256 .f32 :=
  stAt (zT m c t) (iblk m c 6 t) (iblk m c 7 t) (iblk m c 10 t) (iblk m c 11 t) (iblk m c 12 t) st n hn

theorem state_A (c : Dev nD) (t : Fin cfg0.N) (h0 : t.val % 2 = 0) :
    (outsAt0 m c t t.isLt).2.2.2.2.2.2.1 = stT m c t (k0_pay3 (F := Ideal)) 8 (le_refl 8) := by
  rw [outsAt0_A m c t h0]
  frame_out
  rfl

theorem state_B (c : Dev nD) (t : Fin cfg0.N) (h0 : ¬ t.val % 2 = 0) :
    (outsAt0 m c t t.isLt).2.2.2.2.2.2.1
      = stT m c t (outsAt0 m c (t.val - 1) (Nat.lt_of_le_of_lt (Nat.sub_le _ _) t.isLt)).2.2.2.2.2.2.1 8 (le_refl 8) := by
  rw [outsAt0_B m c t h0]
  frame_out
  simp only [read_unread_whole]
  rfl

/-- The chunks' outputs of point `t`, from the state the point begins with. -/
abbrev nT (c : Dev nD) (t : Fin cfg0.N) (st : Vec Ideal S256x256 .f32) (n : Fin 8) : FVec Ideal S128x256 .bf16 :=
  nOf (zT m c t) (iblk m c 6 t) (iblk m c 7 t) (128 * n.val) (by omega) (k0_pay5 (iblk m c 5 t)) (iblk m c 8 t) (stT m c t st n.val (by omega)) (iblk m c 9 t)

/-- A row of a two-dimensional table. -/
abbrev rowOf {A B : ℕ} {e : EltTy} (T : Vec Ideal ⟨2, ![A, B]⟩ e) (k : ℕ) (hk : k < A) : Vec Ideal ⟨2, ![1, B]⟩ e :=
  View.ld T (Rect.unit ![k, 0] ![1, B] (fun a => by
    fin_cases a
    · exact hk
    · exact (Nat.zero_add B).le))

/-- The convolution's rows of point `t`, from the last rows the point before left. -/
abbrev convT (c : Dev nD) (t : Fin cfg0.N) (ca : Vec Ideal S8x256 .f32) : FVec Ideal S1024x256 .bf16 :=
  k0_pay1 (k0_pay194 (zT m c t)) (k0_pay195 (zT m c t) (rowOf ca 7 (by omega))) (k0_pay196 (zT m c t))
    (k0_pay197 (zT m c t) (rowOf ca 7 (by omega)) (rowOf ca 6 (by omega)) (rowOf (iblk m c 13 t) 0 (by decide)))
    (rowOf (iblk m c 13 t) 1 (by decide)) (rowOf (iblk m c 13 t) 2 (by decide))

/-- The eight heads' queries of point `t`. -/
abbrev qT (c : Dev nD) (t : Fin cfg0.N) : ℕ → Vec Ideal S1024x128 .bf16
  | 0 => k0_pay11 (k0_pay5 (iblk m c 5 t)) (k0_pay7 (iblk m c 0 t) (iblk m c 1 t) (iblk m c 2 t)) (iblk m c 3 t)
  | 1 => k0_pay12 k0_pay9 (k0_pay10 (k0_pay5 (iblk m c 5 t)) (k0_pay7 (iblk m c 0 t) (iblk m c 1 t) (iblk m c 2 t)) (iblk m c 3 t))
  | 2 => k0_pay13 k0_pay9 (k0_pay10 (k0_pay5 (iblk m c 5 t)) (k0_pay7 (iblk m c 0 t) (iblk m c 1 t) (iblk m c 2 t)) (iblk m c 3 t))
  | 3 => k0_pay14 k0_pay9 (k0_pay10 (k0_pay5 (iblk m c 5 t)) (k0_pay7 (iblk m c 0 t) (iblk m c 1 t) (iblk m c 2 t)) (iblk m c 3 t))
  | 4 => k0_pay18 (k0_pay16 (k0_pay5 (iblk m c 5 t)) (k0_pay7 (iblk m c 0 t) (iblk m c 1 t) (iblk m c 2 t)) (k0_pay8 (iblk m c 3 t)))
      (k0_pay17 k0_pay9) (FloatOps.ofBits FTy.f32 0#32)
  | 5 => k0_pay19 k0_pay9 (k0_pay15 (k0_pay5 (iblk m c 5 t)) (k0_pay7 (iblk m c 0 t) (iblk m c 1 t) (iblk m c 2 t)) (k0_pay8 (iblk m c 3 t)))
  | 6 => k0_pay20 k0_pay9 (k0_pay15 (k0_pay5 (iblk m c 5 t)) (k0_pay7 (iblk m c 0 t) (iblk m c 1 t) (iblk m c 2 t)) (k0_pay8 (iblk m c 3 t)))
  | _ => k0_pay21 k0_pay9 (k0_pay15 (k0_pay5 (iblk m c 5 t)) (k0_pay7 (iblk m c 0 t) (iblk m c 1 t) (iblk m c 2 t)) (k0_pay8 (iblk m c 3 t)))

/-- The four blocks of keys and values of point `t`. -/
abbrev kvT (c : Dev nD) (t : Fin cfg0.N) : ℕ → Vec Ideal S1024x128 .bf16
  | 0 => k0_pay58 (k0_pay5 (iblk m c 5 t)) (zT m c t) (iblk m c 4 t)
  | 1 => k0_pay59 (zT m c t)
  | 2 => k0_pay60 (k0_pay5 (iblk m c 5 t)) (zT m c t) (iblk m c 4 t)
  | _ => k0_pay61 (zT m c t)

/-- The rows `k`, `k + 16`, … of a block. -/
abbrev rows16 (k : ℕ) : LoadRect S1024x128 where
  off := ![k % 16, 0]
  size := ![64, 128]
  stride := ![16, 1]
  inb := fun a => by
    fin_cases a
    · exact .inr (show k % 16 + 16 * (64 - 1) < 1024 by omega)
    · exact .inr (by decide : 0 + 1 * (128 - 1) < 128)

/-- Every sixteenth row of a block, from row `k` on. -/
def sixteenth (X : Vec Ideal S1024x128 .f32) (k : ℕ) : FVec Ideal S64x128 .bf16 :=
  truncf .bf16 (fun j => X ((rows16 k).idx j) : FVec Ideal S64x128 .f32) bitsLt_bf16_f32

theorem readCov_whole (v : View sig .tc .vmem S1024x128 .f32) (X : Vec Ideal S1024x128 .f32) (B : LoadRect S1024x128) :
    v.readCov (Val := Elt Ideal) [⟨Rect.unit ![0, 0] ![1024, 128] inb_S1024x128_S1024x128_0_0, X⟩] B = fun j => X (B.idx j) := by
  rw [View.readCov_eq_canon', View.canon_cons_unit_lit _ _ _ (by decide)]

theorem out14_A (c : Dev nD) (t : Fin cfg0.N) (hp : t.val % 2 = 0) :
    (outsAt0 m c t t.isLt).1 = tiles14 (convT m c t (k0_pay4 (F := Ideal))) (nT m c t (k0_pay3 (F := Ideal))) := by
  rw [outsAt0_A m c t hp]
  frame_out
  simp (disch := decide) only [View.readCov_fill]
  rfl

theorem out14_B (c : Dev nD) (t : Fin cfg0.N) (hp : ¬ t.val % 2 = 0) :
    (outsAt0 m c t t.isLt).1
      = tiles14 (convT m c t (outsAt0 m c (t.val - 1) (Nat.lt_of_le_of_lt (Nat.sub_le _ _) t.isLt)).2.2.2.2.2.2.2)
          (nT m c t (outsAt0 m c (t.val - 1) (Nat.lt_of_le_of_lt (Nat.sub_le _ _) t.isLt)).2.2.2.2.2.2.1) := by
  rw [outsAt0_B m c t hp]
  frame_out
  simp only [read_unread_whole]
  rfl

theorem out15 (c : Dev nD) (t : Fin cfg0.N) :
    (outsAt0 m c t t.isLt).2.1 = View.canon (colL (A := 1024) (B := 1024) (qT m c t) 8 (by decide)) := by
  by_cases hp : t.val % 2 = 0
  · rw [outsAt0_A m c t hp]
    frame_out
    rfl
  · rw [outsAt0_B m c t hp]
    frame_out
    rfl

theorem out18 (c : Dev nD) (t : Fin cfg0.N) :
    (outsAt0 m c t t.isLt).2.2.2.2.1 = View.canon (colL (A := 1024) (B := 512) (kvT m c t) 4 (by decide)) := by
  by_cases hp : t.val % 2 = 0
  · rw [outsAt0_A m c t hp]
    frame_out
    rfl
  · rw [outsAt0_B m c t hp]
    frame_out
    rfl

theorem out19 (c : Dev nD) (t : Fin cfg0.N) : (outsAt0 m c t t.isLt).2.2.2.2.2.1 = k0_pay62 (zT m c t) := by
  by_cases hp : t.val % 2 = 0
  · rw [outsAt0_A m c t hp]
    frame_out
  · rw [outsAt0_B m c t hp]
    frame_out

theorem carry (c : Dev nD) (t : Fin cfg0.N) : (outsAt0 m c t t.isLt).2.2.2.2.2.2.2 = k0_pay2 (k0_pay194 (zT m c t)) := by
  by_cases hp : t.val % 2 = 0
  · rw [outsAt0_A m c t hp]
    frame_out
  · rw [outsAt0_B m c t hp]
    frame_out

theorem out16 (c : Dev nD) (t : Fin cfg0.N) :
    (outsAt0 m c t t.isLt).2.2.1 = View.canon (colL (A := 64) (B := 2048) (sixteenth (k0_pay22 (zT m c t))) 16 (by decide)) := by
  by_cases hp : t.val % 2 = 0
  · rw [outsAt0_A m c t hp]
    frame_out
    simp only [readCov_whole]
    rfl
  · rw [outsAt0_B m c t hp]
    frame_out
    simp only [readCov_whole]
    rfl

theorem out17 (c : Dev nD) (t : Fin cfg0.N) :
    (outsAt0 m c t t.isLt).2.2.2.1 = View.canon (colL (A := 64) (B := 2048) (sixteenth (k0_pay39 (zT m c t))) 16 (by decide)) := by
  by_cases hp : t.val % 2 = 0
  · rw [outsAt0_A m c t hp]
    frame_out
    simp only [readCov_whole]
    rfl
  · rw [outsAt0_B m c t hp]
    frame_out
    simp only [readCov_whole]
    rfl

end Cert.KernelIdeal.RefValue

end
-- ==== Proof.Blocks.lean ====
/- What the first call's input arrays hold when the grid begins, entry by entry: the arguments rearranged. -/
module

public import proofs.«01_k».proof.Proof.Outs

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
theorem ent0 (c : Dev nD) (r : Fin 65536) (k : Fin 1024) : V m c main_v83 (ix2 r k) =
    m (c.tc.loc main_arg0) (ix3 (⟨r.val / 2048, by omega⟩ : Fin 32) (⟨r.val % 2048, by omega⟩ : Fin 2048) k) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 4000000 in
theorem ent1 (c : Dev nD) (k : Fin 1024) : V m c main_v98 (ix2 (0 : Fin 1) k) =
    m (c.tc.loc main_arg1) (ix1 k) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 4000000 in
theorem ent3 (c : Dev nD) (j : Fin 256) : V m c main_v93 (ix2 (0 : Fin 1) j) =
    m (c.tc.loc main_arg4) (ix1 (⟨j.val % 64, by omega⟩ : Fin 64)) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 4000000 in
theorem ent4 (c : Dev nD) (j : Fin 256) : V m c main_v101 (ix2 (0 : Fin 1) j) =
    m (c.tc.loc main_arg5) (ix1 (⟨j.val % 64, by omega⟩ : Fin 64)) := by
  simp only [V, hostOps0, hostOps0_1, hostOps0_2, hostOps0_3, hostOps0_4, hostOps0_5, hostOps0_6, List.flatten_cons, List.flatten_nil, List.append_nil, List.cons_append, List.nil_append]
  entry_read
  pointwise
  blk_ext []

end Cert.KernelIdeal.RefValue
-- ==== Proof.Wall.lean ====
/- The weight array of the first call: the given matrix with its columns regrouped. -/
module

public import proofs.«01_k».proof.Proof.Outs
public import Idealize.ShloMosaic.Lib.Tactic.CleanTypes

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The weight array from what the last host lines find: three column ranges of the given matrix side by side. -/
theorem rd89 (σ : Valuation τ sig (Elt Ideal)) : StableHlo.after hostOps0_6 σ (Proc.devRef .tc main_v89) =
   (concatenate S1024x3200 1 [⟨S1024x1280, (σ (Proc.devRef .tc main_v85) : (⟨S1024x1280, .bf16⟩ : BufTy).Contents (Elt Ideal))⟩, ⟨S1024x128, (σ (Proc.devRef .tc main_v87) : (⟨S1024x128, .bf16⟩ : BufTy).Contents (Elt Ideal))⟩,
    ⟨S1024x1792, (extractStridedSlice S1024x1792 ![0, 0] (σ (Proc.devRef .tc main_v84) : (⟨S1024x3096, .bf16⟩ : BufTy).Contents (Elt Ideal)) slices_S1024x3096_S1024x1792_0_0)⟩] concatenates_S1024x1280_S1024x128_S1024x1792_S1024x3200_d1) := rfl

theorem rd87 (σ : Valuation τ sig (Elt Ideal)) : StableHlo.after hostOps0_5 σ (Proc.devRef .tc main_v87) =
   (pad S1024x128 ![0, 0] ![0, 104] ![0, 0] (σ (Proc.devRef .tc main_v86) : (⟨S1024x24, .bf16⟩ : BufTy).Contents (Elt Ideal))
     (sitofp (F := Ideal) .bf16 (σ (Proc.devRef .tc main_c) : (⟨S_, .i32⟩ : BufTy).Contents (Elt Ideal))) pads_S1024x24_S1024x128_000_01040 h_S_) := rfl

theorem rd85 (σ : Valuation τ sig (Elt Ideal)) : StableHlo.after hostOps0_5 σ (Proc.devRef .tc main_v85) = σ (Proc.devRef .tc main_v85) := rfl

theorem rd84 (σ : Valuation τ sig (Elt Ideal)) : StableHlo.after hostOps0_5 σ (Proc.devRef .tc main_v84) = σ (Proc.devRef .tc main_v84) := rfl

theorem rf84 (σ : Valuation τ sig (Elt Ideal)) : StableHlo.after hostOps0_4 σ (Proc.devRef .tc main_v84) =
   (truncf .bf16 (show FVec Ideal S1024x3096 .f32 from σ (Proc.devRef .tc main_arg2)) bitsLt_bf16_f32 : FVec Ideal S1024x3096 .bf16) := rfl

theorem rf85 (σ : Valuation τ sig (Elt Ideal)) : StableHlo.after hostOps0_4 σ (Proc.devRef .tc main_v85) =
   extractStridedSlice S1024x1280 ![0, 1792] (truncf .bf16 (show FVec Ideal S1024x3096 .f32 from σ (Proc.devRef .tc main_arg2)) bitsLt_bf16_f32 : FVec Ideal S1024x3096 .bf16) slices_S1024x3096_S1024x1280_0_1792 := rfl

theorem rf86 (σ : Valuation τ sig (Elt Ideal)) : StableHlo.after hostOps0_4 σ (Proc.devRef .tc main_v86) =
   extractStridedSlice S1024x24 ![0, 3072] (truncf .bf16 (show FVec Ideal S1024x3096 .f32 from σ (Proc.devRef .tc main_arg2)) bitsLt_bf16_f32 : FVec Ideal S1024x3096 .bf16) slices_S1024x3096_S1024x24_0_3072 := rfl

theorem rfc (σ : Valuation τ sig (Elt Ideal)) : StableHlo.after hostOps0_4 σ (Proc.devRef .tc main_c) = (constantI S_ 32 0#32) := rfl

theorem before4 (c : Dev nD) : StableHlo.after hostOps0_3 (StableHlo.after hostOps0_2 (StableHlo.after hostOps0_1 (StableHlo.after hostOps0 (fun b => m (c, b))))) (Proc.devRef .tc main_arg2)
    = m ((c : Thread nD τ).loc main_arg2) := rfl

/-- The weight matrix with its columns regrouped, read at an entry. -/
def wall (w : (⟨S1024x3096, .f32⟩ : BufTy).Contents (Elt Ideal)) : Vec Ideal S1024x3200 .bf16 :=
  concatenate S1024x3200 1 [⟨S1024x1280, extractStridedSlice S1024x1280 ![0, 1792] (truncf .bf16 (show FVec Ideal S1024x3096 .f32 from w) bitsLt_bf16_f32 : FVec Ideal S1024x3096 .bf16) slices_S1024x3096_S1024x1280_0_1792⟩,
    ⟨S1024x128, pad S1024x128 ![0, 0] ![0, 104] ![0, 0] (extractStridedSlice S1024x24 ![0, 3072] (truncf .bf16 (show FVec Ideal S1024x3096 .f32 from w) bitsLt_bf16_f32 : FVec Ideal S1024x3096 .bf16) slices_S1024x3096_S1024x24_0_3072)
      (sitofp (F := Ideal) .bf16 (constantI S_ 32 0#32)) pads_S1024x24_S1024x128_000_01040 h_S_⟩,
    ⟨S1024x1792, extractStridedSlice S1024x1792 ![0, 0] (truncf .bf16 (show FVec Ideal S1024x3096 .f32 from w) bitsLt_bf16_f32 : FVec Ideal S1024x3096 .bf16) slices_S1024x3096_S1024x1792_0_0⟩] concatenates_S1024x1280_S1024x128_S1024x1792_S1024x3200_d1

theorem V_v89 (c : Dev nD) : V m c main_v89 = wall (m ((c : Thread nD τ).loc main_arg2)) := by
  have e : V m c main_v89 = StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc main_v89) := by
    unfold V
    simp only [List.flatten_cons, List.flatten_nil, List.append_nil, StableHlo.after_append]
  refine e.trans ?_
  rw [rd89, rd87, rd85, rd84, rf84, rf85, rf86, rfc, before4]
  rfl

theorem wall_a (w : (⟨S1024x3096, .f32⟩ : BufTy).Contents (Elt Ideal)) (k : Fin 1024) (j : Fin 1280) :
    wall w (ix2 k (⟨j.val, by omega⟩ : Fin 3200)) = w (ix2 k (⟨1792 + j.val, by omega⟩ : Fin 3096)) := by
  pointwise [wall]

theorem wall_b (w : (⟨S1024x3096, .f32⟩ : BufTy).Contents (Elt Ideal)) (k : Fin 1024) (j : Fin 24) :
    wall w (ix2 k (⟨1280 + j.val, by omega⟩ : Fin 3200)) = w (ix2 k (⟨3072 + j.val, by omega⟩ : Fin 3096)) := by
  pointwise [wall]
  rw [dif_pos (by omega)]

theorem sitofp_zero : FloatOps.sitofp (F := Ideal) FTy.bf16 (0#32) = (0 : EReal) := by
  change (((0#32).toInt : ℝ) : EReal) = 0
  simp

theorem wall_z (w : (⟨S1024x3096, .f32⟩ : BufTy).Contents (Elt Ideal)) (k : Fin 1024) (j : Fin 104) :
    wall w (ix2 k (⟨1304 + j.val, by omega⟩ : Fin 3200)) = (0 : EReal) := by
  pointwise [wall]
  rw [dif_neg (by omega), dif_pos (by omega), dif_neg (by omega)]
  exact sitofp_zero

theorem wall_c (w : (⟨S1024x3096, .f32⟩ : BufTy).Contents (Elt Ideal)) (k : Fin 1024) (j : Fin 1792) :
    wall w (ix2 k (⟨1408 + j.val, by omega⟩ : Fin 3200)) = w (ix2 k (⟨j.val, by omega⟩ : Fin 3096)) := by
  pointwise [wall]
  rw [dif_neg (by omega), dif_neg (by omega)]
  refine congrArg w (congrArg (ix2 k) (Fin.ext ?_))
  change 1408 + j.val - 1280 - 128 = j.val
  omega

end Cert.KernelIdeal.RefValue
-- ==== Proof.Lits.lean ====
/- The two block-diagonal tables of the first call: one value inside a head's block, zero outside. -/
module

public import proofs.«01_k».proof.KernelIdeal
public import Mathlib.Tactic.IntervalCases

@[expose] public section

set_option maxRecDepth 65536
noncomputable section

namespace Cert.KernelIdeal.RefValue

open Cert.KernelIdeal Idealize.ShloMosaic

theorem lit1_0 (i : ℕ) : lit1t0_0 i = if i % 128 / 64 = 0 then 0x3F800000#32 else 0#32 := by
  have hi : i % 128 < 128 := Nat.mod_lt _ (by decide)
  unfold lit1t0_0
  generalize i % 128 = d at *
  interval_cases d <;> rfl

theorem lit1_1 (i : ℕ) : lit1t0_1 i = 0#32 := by
  have hi : i % 128 < 128 := Nat.mod_lt _ (by decide)
  unfold lit1t0_1
  generalize i % 128 = d at *
  interval_cases d <;> rfl

theorem lit1_row0 (i : ℕ) : lit1t1_0 i = if i / 128 % 128 % 2 = 0 then lit1t0_0 i else lit1t0_1 i := by
  have hi : i / 128 % 128 < 128 := Nat.mod_lt _ (by decide)
  unfold lit1t1_0
  generalize i / 128 % 128 = d at *
  interval_cases d <;> rfl

theorem lit1_128 (i : ℕ) : lit1t0_128 i = if i % 128 / 64 = 1 then 0x3F800000#32 else 0#32 := by
  have hi : i % 128 < 128 := Nat.mod_lt _ (by decide)
  unfold lit1t0_128
  generalize i % 128 = d at *
  interval_cases d <;> rfl

theorem lit1_129 (i : ℕ) : lit1t0_129 i = 0#32 := by
  have hi : i % 128 < 128 := Nat.mod_lt _ (by decide)
  unfold lit1t0_129
  generalize i % 128 = d at *
  interval_cases d <;> rfl

theorem lit1_row1 (i : ℕ) : lit1t1_1 i = if i / 128 % 128 % 2 = 0 then lit1t0_128 i else lit1t0_129 i := by
  have hi : i / 128 % 128 < 128 := Nat.mod_lt _ (by decide)
  unfold lit1t1_1
  generalize i / 128 % 128 = d at *
  interval_cases d <;> rfl

theorem lit1_256 (i : ℕ) : lit1t0_256 i = 0#32 := by
  have hi : i % 128 < 128 := Nat.mod_lt _ (by decide)
  unfold lit1t0_256
  generalize i % 128 = d at *
  interval_cases d <;> rfl

theorem lit1_257 (i : ℕ) : lit1t0_257 i = if i % 128 / 64 = 0 then 0x3F800000#32 else 0#32 := by
  have hi : i % 128 < 128 := Nat.mod_lt _ (by decide)
  unfold lit1t0_257
  generalize i % 128 = d at *
  interval_cases d <;> rfl

theorem lit1_row2 (i : ℕ) : lit1t1_2 i = if i / 128 % 128 % 2 = 0 then lit1t0_256 i else lit1t0_257 i := by
  have hi : i / 128 % 128 < 128 := Nat.mod_lt _ (by decide)
  unfold lit1t1_2
  generalize i / 128 % 128 = d at *
  interval_cases d <;> rfl

theorem lit1_384 (i : ℕ) : lit1t0_384 i = 0#32 := by
  have hi : i % 128 < 128 := Nat.mod_lt _ (by decide)
  unfold lit1t0_384
  generalize i % 128 = d at *
  interval_cases d <;> rfl

theorem lit1_385 (i : ℕ) : lit1t0_385 i = if i % 128 / 64 = 1 then 0x3F800000#32 else 0#32 := by
  have hi : i % 128 < 128 := Nat.mod_lt _ (by decide)
  unfold lit1t0_385
  generalize i % 128 = d at *
  interval_cases d <;> rfl

theorem lit1_row3 (i : ℕ) : lit1t1_3 i = if i / 128 % 128 % 2 = 0 then lit1t0_384 i else lit1t0_385 i := by
  have hi : i / 128 % 128 < 128 := Nat.mod_lt _ (by decide)
  unfold lit1t1_3
  generalize i / 128 % 128 = d at *
  interval_cases d <;> rfl

theorem lit1_eq (a b : Fin 256) (h : a.val * 256 + b.val < 65536) :
    lit1 ⟨a.val * 256 + b.val, h⟩ = if a.val / 64 = b.val / 64 then 0x3F800000#32 else 0#32 := by
  have ha := a.isLt
  have hb := b.isLt
  have e0 : (a.val * 256 + b.val) / 16384 = a.val / 64 := by omega
  have e1 : (a.val * 256 + b.val) / 128 % 128 % 2 = b.val / 128 := by omega
  have e2 : (a.val * 256 + b.val) % 128 / 64 = b.val / 64 % 2 := by omega
  have h4 : a.val / 64 < 4 := by omega
  change lit1t _ = _
  unfold lit1t
  rw [e0]
  generalize a.val / 64 = A at *
  interval_cases A
  all_goals
    simp only [lit1_row0, lit1_row1, lit1_row2, lit1_row3, e1]
    simp only [lit1_0, lit1_1, lit1_128, lit1_129, lit1_256, lit1_257, lit1_384, lit1_385, e2]
    split_ifs <;> first | rfl | omega

theorem lit2_0 (i : ℕ) : lit2t0_0 i = if i % 128 / 64 = 0 then 0x3C800000#32 else 0#32 := by
  have hi : i % 128 < 128 := Nat.mod_lt _ (by decide)
  unfold lit2t0_0
  generalize i % 128 = d at *
  interval_cases d <;> rfl

theorem lit2_1 (i : ℕ) : lit2t0_1 i = 0#32 := by
  have hi : i % 128 < 128 := Nat.mod_lt _ (by decide)
  unfold lit2t0_1
  generalize i % 128 = d at *
  interval_cases d <;> rfl

theorem lit2_row0 (i : ℕ) : lit2t1_0 i = if i / 128 % 128 % 2 = 0 then lit2t0_0 i else lit2t0_1 i := by
  have hi : i / 128 % 128 < 128 := Nat.mod_lt _ (by decide)
  unfold lit2t1_0
  generalize i / 128 % 128 = d at *
  interval_cases d <;> rfl

theorem lit2_128 (i : ℕ) : lit2t0_128 i = if i % 128 / 64 = 1 then 0x3C800000#32 else 0#32 := by
  have hi : i % 128 < 128 := Nat.mod_lt _ (by decide)
  unfold lit2t0_128
  generalize i % 128 = d at *
  interval_cases d <;> rfl

theorem lit2_129 (i : ℕ) : lit2t0_129 i = 0#32 := by
  have hi : i % 128 < 128 := Nat.mod_lt _ (by decide)
  unfold lit2t0_129
  generalize i % 128 = d at *
  interval_cases d <;> rfl

theorem lit2_row1 (i : ℕ) : lit2t1_1 i = if i / 128 % 128 % 2 = 0 then lit2t0_128 i else lit2t0_129 i := by
  have hi : i / 128 % 128 < 128 := Nat.mod_lt _ (by decide)
  unfold lit2t1_1
  generalize i / 128 % 128 = d at *
  interval_cases d <;> rfl

theorem lit2_256 (i : ℕ) : lit2t0_256 i = 0#32 := by
  have hi : i % 128 < 128 := Nat.mod_lt _ (by decide)
  unfold lit2t0_256
  generalize i % 128 = d at *
  interval_cases d <;> rfl

theorem lit2_257 (i : ℕ) : lit2t0_257 i = if i % 128 / 64 = 0 then 0x3C800000#32 else 0#32 := by
  have hi : i % 128 < 128 := Nat.mod_lt _ (by decide)
  unfold lit2t0_257
  generalize i % 128 = d at *
  interval_cases d <;> rfl

theorem lit2_row2 (i : ℕ) : lit2t1_2 i = if i / 128 % 128 % 2 = 0 then lit2t0_256 i else lit2t0_257 i := by
  have hi : i / 128 % 128 < 128 := Nat.mod_lt _ (by decide)
  unfold lit2t1_2
  generalize i / 128 % 128 = d at *
  interval_cases d <;> rfl

theorem lit2_384 (i : ℕ) : lit2t0_384 i = 0#32 := by
  have hi : i % 128 < 128 := Nat.mod_lt _ (by decide)
  unfold lit2t0_384
  generalize i % 128 = d at *
  interval_cases d <;> rfl

theorem lit2_385 (i : ℕ) : lit2t0_385 i = if i % 128 / 64 = 1 then 0x3C800000#32 else 0#32 := by
  have hi : i % 128 < 128 := Nat.mod_lt _ (by decide)
  unfold lit2t0_385
  generalize i % 128 = d at *
  interval_cases d <;> rfl

theorem lit2_row3 (i : ℕ) : lit2t1_3 i = if i / 128 % 128 % 2 = 0 then lit2t0_384 i else lit2t0_385 i := by
  have hi : i / 128 % 128 < 128 := Nat.mod_lt _ (by decide)
  unfold lit2t1_3
  generalize i / 128 % 128 = d at *
  interval_cases d <;> rfl

theorem lit2_eq (a b : Fin 256) (h : a.val * 256 + b.val < 65536) :
    lit2 ⟨a.val * 256 + b.val, h⟩ = if a.val / 64 = b.val / 64 then 0x3C800000#32 else 0#32 := by
  have ha := a.isLt
  have hb := b.isLt
  have e0 : (a.val * 256 + b.val) / 16384 = a.val / 64 := by omega
  have e1 : (a.val * 256 + b.val) / 128 % 128 % 2 = b.val / 128 := by omega
  have e2 : (a.val * 256 + b.val) % 128 / 64 = b.val / 64 % 2 := by omega
  have h4 : a.val / 64 < 4 := by omega
  change lit2t _ = _
  unfold lit2t
  rw [e0]
  generalize a.val / 64 = A at *
  interval_cases A
  all_goals
    simp only [lit2_row0, lit2_row1, lit2_row2, lit2_row3, e1]
    simp only [lit2_0, lit2_1, lit2_128, lit2_129, lit2_256, lit2_257, lit2_384, lit2_385, e2]
    split_ifs <;> first | rfl | omega

end Cert.KernelIdeal.RefValue
-- ==== Proof.RefRead.lean ====
/- The first call's reference read at an index. -/
module

public import proofs.«01_k».proof.Proof.Gen.ReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.ReferenceIdeal.RefValue

open Cert.ReferenceIdeal Cert.ReferenceIdeal.Value Idealize.ShloMosaic Idealize.ShloMosaic.TcCoe Idealize.SL.Sem

/-- The projected row `(b, s)`: the normalized input row through the column `c` of the weights. -/
def zr (V : Valuation τ sig (Elt Ideal)) (b : Fin 32) (s : Fin 2048) (c : Fin 3096) : EReal := res_main_v13 V (ix3 b s c)
/-- The cosine and the sine of coordinate `d`'s angle at position `s`. -/
def cr (V : Valuation τ sig (Elt Ideal)) (s : Fin 2048) (d : Fin 64) : EReal := res_main_v43 V (ix3 s 0 d)
def sr (V : Valuation τ sig (Elt Ideal)) (s : Fin 2048) (d : Fin 64) : EReal := res_main_v44 V (ix3 s 0 d)
/-- The logarithm of the decay of head `h`. -/
def lr (V : Valuation τ sig (Elt Ideal)) (h : Fin 4) : EReal := res_main_v91 V (ix1 h)
/-- Position `r` within its chunk. -/
def pr (V : Valuation τ sig (Elt Ideal)) (r : Fin 128) : EReal := res_main_v92 V (ix1 r)
/-- Chunk `n`'s queries, keys and values. -/
def qr (V : Valuation τ sig (Elt Ideal)) (b : Fin 32) (n : Fin 16) (r : Fin 128) (h : Fin 4) (d : Fin 64) : EReal := res_main_v78 V (ix5 b h n r d)
def kr (V : Valuation τ sig (Elt Ideal)) (b : Fin 32) (n : Fin 16) (r : Fin 128) (h : Fin 4) (d : Fin 64) : EReal := res_main_v80 V (ix5 b h n r d)
def vr (V : Valuation τ sig (Elt Ideal)) (b : Fin 32) (n : Fin 16) (r : Fin 128) (h : Fin 4) (d : Fin 64) : EReal := res_main_v83 V (ix5 b h n r d)
/-- The decays: of the keys, of the queries, over a whole chunk, and between two positions of a chunk. -/
def kdr (V : Valuation τ sig (Elt Ideal)) (h : Fin 4) (r : Fin 128) : EReal := Ideal.exp (lr V h * (Ideal.ofBits FTy.f32 0x42FE0000#32 - pr V r))
def qdr (V : Valuation τ sig (Elt Ideal)) (h : Fin 4) (r : Fin 128) : EReal := Ideal.exp (lr V h * (pr V r + 1))
def cdr (V : Valuation τ sig (Elt Ideal)) (h : Fin 4) : EReal := Ideal.exp (lr V h * Ideal.ofBits FTy.f32 0x43000000#32)
def dmr (V : Valuation τ sig (Elt Ideal)) (h : Fin 4) (r m : Fin 128) : EReal :=
  if 0 ≤ pr V r - pr V m then Ideal.exp (lr V h * max (pr V r - pr V m) 0) else 0
/-- What chunk `n` adds to the state. -/
def kvr (V : Valuation τ sig (Elt Ideal)) (b : Fin 32) (n : Fin 16) (h : Fin 4) (d e : Fin 64) : EReal :=
  ∑ m : Fin 128, kr V b n m h d * kdr V h m * vr V b n m h e
/-- The state entering chunk `n`. -/
def stR (V : Valuation τ sig (Elt Ideal)) (b : Fin 32) (h : Fin 4) (d e : Fin 64) : ℕ → EReal
  | 0 => 0
  | n + 1 => stR V b h d e n * cdr V h + (if hn : n < 16 then kvr V b ⟨n, hn⟩ h d e else 0)

variable (V : Valuation τ sig (Elt Ideal))

/-- The three arguments of the projection. -/
def xr (V : Valuation τ sig (Elt Ideal)) (b : Fin 32) (s : Fin 2048) (k : Fin 1024) : EReal := V (Proc.devRef .tc main_arg0) (ix3 b s k)
def gr (V : Valuation τ sig (Elt Ideal)) (k : Fin 1024) : EReal := V (Proc.devRef .tc main_arg1) (ix1 k)
def wr (V : Valuation τ sig (Elt Ideal)) (k : Fin 1024) (c : Fin 3096) : EReal := V (Proc.devRef .tc main_arg2) (ix2 k c)

/-- One entry of a row's projection: the row times its inverse root mean square times the gain, through a column. -/
def proj (x g w : Fin 1024 → EReal) : EReal :=
  ∑ k, (x k * Ideal.rsqrt (Ideal.div (∑ i, x i * x i) (Ideal.ofBits .f32 0x44800000#32) + Ideal.ofBits .f32 0x358637BD#32) * g k) * w k

theorem r13 (b : Fin 32) (s : Fin 2048) (c : Fin 3096) : zr V b s c = proj (xr V b s) (gr V) fun k => wr V k c := by
  unfold zr xr gr wr proj res_main_v13
  clean_types
  pointwise

theorem qr_e (b : Fin 32) (n : Fin 16) (r : Fin 128) (h : Fin 4) (p : Fin 32) :
    qr V b n r h ⟨2 * p.val, by omega⟩ = zr V b ⟨n.val * 128 + r.val, by omega⟩ ⟨h.val * 64 + (2 * p.val), by omega⟩ * cr V ⟨n.val * 128 + r.val, by omega⟩ ⟨2 * p.val, by omega⟩
        + (-zr V b ⟨n.val * 128 + r.val, by omega⟩ ⟨h.val * 64 + (1 + 2 * p.val), by omega⟩) * sr V ⟨n.val * 128 + r.val, by omega⟩ ⟨2 * p.val, by omega⟩ := by
  unfold qr zr cr sr res_main_v78 res_main_v45
  clean_types
  pointwise
  rw [dif_pos (by omega)]

theorem qr_o (b : Fin 32) (n : Fin 16) (r : Fin 128) (h : Fin 4) (p : Fin 32) :
    qr V b n r h ⟨2 * p.val + 1, by omega⟩ = zr V b ⟨n.val * 128 + r.val, by omega⟩ ⟨h.val * 64 + (2 * p.val + 1), by omega⟩ * cr V ⟨n.val * 128 + r.val, by omega⟩ ⟨2 * p.val + 1, by omega⟩
        + (zr V b ⟨n.val * 128 + r.val, by omega⟩ ⟨h.val * 64 + (2 * p.val), by omega⟩) * sr V ⟨n.val * 128 + r.val, by omega⟩ ⟨2 * p.val + 1, by omega⟩ := by
  unfold qr zr cr sr res_main_v78 res_main_v45
  clean_types
  pointwise
  rw [dif_neg (by omega)]

theorem kr_e (b : Fin 32) (n : Fin 16) (r : Fin 128) (h : Fin 4) (p : Fin 32) :
    kr V b n r h ⟨2 * p.val, by omega⟩ = (zr V b ⟨n.val * 128 + r.val, by omega⟩ ⟨256 + (h.val * 64 + (2 * p.val)), by omega⟩ * cr V ⟨n.val * 128 + r.val, by omega⟩ ⟨2 * p.val, by omega⟩
        + (-zr V b ⟨n.val * 128 + r.val, by omega⟩ ⟨256 + (h.val * 64 + (1 + 2 * p.val)), by omega⟩) * sr V ⟨n.val * 128 + r.val, by omega⟩ ⟨2 * p.val, by omega⟩) * Ideal.ofBits FTy.f32 0x3E000000#32 := by
  unfold kr zr cr sr res_main_v80 res_main_v60
  clean_types
  pointwise
  rw [dif_pos (by omega)]

theorem kr_o (b : Fin 32) (n : Fin 16) (r : Fin 128) (h : Fin 4) (p : Fin 32) :
    kr V b n r h ⟨2 * p.val + 1, by omega⟩ = (zr V b ⟨n.val * 128 + r.val, by omega⟩ ⟨256 + (h.val * 64 + (2 * p.val + 1)), by omega⟩ * cr V ⟨n.val * 128 + r.val, by omega⟩ ⟨2 * p.val + 1, by omega⟩
        + (zr V b ⟨n.val * 128 + r.val, by omega⟩ ⟨256 + (h.val * 64 + (2 * p.val)), by omega⟩) * sr V ⟨n.val * 128 + r.val, by omega⟩ ⟨2 * p.val + 1, by omega⟩) * Ideal.ofBits FTy.f32 0x3E000000#32 := by
  unfold kr zr cr sr res_main_v80 res_main_v60
  clean_types
  pointwise
  rw [dif_neg (by omega)]

theorem vr_eq (b : Fin 32) (n : Fin 16) (r : Fin 128) (h : Fin 4) (d : Fin 64) :
    vr V b n r h d = zr V b ⟨n.val * 128 + r.val, by omega⟩ ⟨512 + (h.val * 64 + d.val), by omega⟩ := by
  unfold vr zr res_main_v83
  clean_types
  pointwise

theorem r136 (h : Fin 4) : res_main_v136 V (ix3 h 0 0) = cdr V h := by
  unfold cdr lr res_main_v136
  clean_types
  pointwise

theorem r97 (r m : Fin 128) : res_main_v97 V (ix2 r m) = pr V r - pr V m := by
  unfold pr res_main_v97
  clean_types
  pointwise

theorem r140 (b : Fin 32) (h : Fin 4) (n : Fin 16) (d e : Fin 64) :
    res_main_v140 V (ix5 n b h d e) = kvr V b n h d e := by
  unfold kvr kr kdr vr lr pr res_main_v140
  clean_types
  pointwise

theorem r141 (b : Fin 32) (h : Fin 4) (d e : Fin 64) : res_main_v141 V (ix4 b h d e) = stR V b h d e 0 := by
  unfold res_main_v141 stR
  clean_types
  pointwise

theorem r147 (b : Fin 32) (h : Fin 4) (d e : Fin 64) : res_main_v147 V (ix4 b h d e) = stR V b h d e 1 := by
  unfold res_main_v147
  clean_types
  pointwise
  simp only [r141, r136, r140]
  rfl

theorem r153 (b : Fin 32) (h : Fin 4) (d e : Fin 64) : res_main_v153 V (ix4 b h d e) = stR V b h d e 2 := by
  unfold res_main_v153
  clean_types
  pointwise
  simp only [r147, r136, r140]
  rfl

theorem r159 (b : Fin 32) (h : Fin 4) (d e : Fin 64) : res_main_v159 V (ix4 b h d e) = stR V b h d e 3 := by
  unfold res_main_v159
  clean_types
  pointwise
  simp only [r153, r136, r140]
  rfl

theorem r165 (b : Fin 32) (h : Fin 4) (d e : Fin 64) : res_main_v165 V (ix4 b h d e) = stR V b h d e 4 := by
  unfold res_main_v165
  clean_types
  pointwise
  simp only [r159, r136, r140]
  rfl

theorem r171 (b : Fin 32) (h : Fin 4) (d e : Fin 64) : res_main_v171 V (ix4 b h d e) = stR V b h d e 5 := by
  unfold res_main_v171
  clean_types
  pointwise
  simp only [r165, r136, r140]
  rfl

theorem r177 (b : Fin 32) (h : Fin 4) (d e : Fin 64) : res_main_v177 V (ix4 b h d e) = stR V b h d e 6 := by
  unfold res_main_v177
  clean_types
  pointwise
  simp only [r171, r136, r140]
  rfl

theorem r183 (b : Fin 32) (h : Fin 4) (d e : Fin 64) : res_main_v183 V (ix4 b h d e) = stR V b h d e 7 := by
  unfold res_main_v183
  clean_types
  pointwise
  simp only [r177, r136, r140]
  rfl

theorem r189 (b : Fin 32) (h : Fin 4) (d e : Fin 64) : res_main_v189 V (ix4 b h d e) = stR V b h d e 8 := by
  unfold res_main_v189
  clean_types
  pointwise
  simp only [r183, r136, r140]
  rfl

theorem r195 (b : Fin 32) (h : Fin 4) (d e : Fin 64) : res_main_v195 V (ix4 b h d e) = stR V b h d e 9 := by
  unfold res_main_v195
  clean_types
  pointwise
  simp only [r189, r136, r140]
  rfl

theorem r201 (b : Fin 32) (h : Fin 4) (d e : Fin 64) : res_main_v201 V (ix4 b h d e) = stR V b h d e 10 := by
  unfold res_main_v201
  clean_types
  pointwise
  simp only [r195, r136, r140]
  rfl

theorem r207 (b : Fin 32) (h : Fin 4) (d e : Fin 64) : res_main_v207 V (ix4 b h d e) = stR V b h d e 11 := by
  unfold res_main_v207
  clean_types
  pointwise
  simp only [r201, r136, r140]
  rfl

theorem r213 (b : Fin 32) (h : Fin 4) (d e : Fin 64) : res_main_v213 V (ix4 b h d e) = stR V b h d e 12 := by
  unfold res_main_v213
  clean_types
  pointwise
  simp only [r207, r136, r140]
  rfl

theorem r219 (b : Fin 32) (h : Fin 4) (d e : Fin 64) : res_main_v219 V (ix4 b h d e) = stR V b h d e 13 := by
  unfold res_main_v219
  clean_types
  pointwise
  simp only [r213, r136, r140]
  rfl

theorem r225 (b : Fin 32) (h : Fin 4) (d e : Fin 64) : res_main_v225 V (ix4 b h d e) = stR V b h d e 14 := by
  unfold res_main_v225
  clean_types
  pointwise
  simp only [r219, r136, r140]
  rfl

theorem r252 (b : Fin 32) (h : Fin 4) (n : Fin 16) (r : Fin 128) (e : Fin 64) :
    res_main_v252 V (ix5 b h n r e) = ∑ x : Fin 64, qr V b n r h x * qdr V h r * stR V b h x e n.val := by
  unfold res_main_v252 qr qdr lr pr
  clean_types
  pointwise
  simp only [r141, r147, r153, r159, r165, r171, r177, r183, r189, r195, r201, r207, r213, r219, r225, r136, r140]
  refine Finset.sum_congr rfl fun x _ => ?_
  congr 1
  fin_cases n <;> rfl

/-- The recurrence's output before its normalization. -/
def outr (V : Valuation τ sig (Elt Ideal)) (b : Fin 32) (n : Fin 16) (r : Fin 128) (h : Fin 4) (e : Fin 64) : EReal :=
  ∑ m : Fin 128, (∑ x : Fin 64, qr V b n r h x * kr V b n m h x) * dmr V h r m * vr V b n m h e
    + ∑ x : Fin 64, qr V b n r h x * qdr V h r * stR V b h x e n.val

theorem r255 (b : Fin 32) (n : Fin 16) (r : Fin 128) (h : Fin 4) (e : Fin 64) :
    res_main_v255 V (ix4 b ⟨n.val * 128 + r.val, by omega⟩ h e) = outr V b n r h e := by
  unfold res_main_v255
  clean_types
  pointwise
  have e1 : (n.val * 128 + r.val) / 128 = n.val := by omega
  have e2 : (n.val * 128 + r.val) % 128 = r.val := by omega
  have e3 : (id (constant (F := Ideal) S_ .f32 0x00000000#32)) ix0 = (0 : EReal) := Ideal.ofBits_zero_f32
  simp only [e1, e2, e3, r252, r97]
  rfl

end Cert.ReferenceIdeal.RefValue

end
-- ==== Proof.Tabs.lean ====
/- What the first call's table arrays hold when the grid begins: the reference's own angles and decays, lane by lane. -/
module

public import proofs.«01_k».proof.Proof.Outs
public import proofs.«01_k».proof.Proof.Lits
public import proofs.«01_k».proof.Proof.RefRead
public import Idealize.ShloMosaic.Lib.Tactic.CleanTypes

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.ReferenceIdeal.RefValue (cr sr lr pr kdr qdr cdr dmr)

theorem rm256 (a b : Fin 256) (h : a.val * 256 + b.val < 65536) : (S256x256.rowMajor (ix2 a b) : Fin 65536) = ⟨a.val * 256 + b.val, h⟩ :=
  Fin.ext (Shape.rowMajor_val_two (d := ![256, 256]) (ix2 a b))

theorem lane_head (h : Fin 4) (d : Fin 64) : (64 * h.val + d.val) / 64 = h.val := by omega

theorem lane_off (h : Fin 4) (d : Fin 64) : (64 * h.val + d.val) % 64 = d.val := by omega

theorem lane_lt (h : Fin 4) (d : Fin 64) (h' : Fin 4) (e : Fin 64) : (lane h d).val * 256 + (lane h' e).val < 65536 := by
  change (64 * h.val + d.val) * 256 + (64 * h'.val + e.val) < 65536
  omega

theorem sign0 : Ideal.ofBits FTy.f32 (lit0 (S2.rowMajor (ix1 0))) = (-1 : EReal) := by
  have e : (show Fin 2 from S2.rowMajor (ix1 0)) = 0 := Fin.ext (Shape.rowMajor_val_one (d := ![2]) (ix1 0))
  refine (congrArg (fun x => Ideal.ofBits FTy.f32 (lit0 x)) e).trans ?_
  change Ideal.ofBits FTy.f32 0xBF800000#32 = -1
  rw [show (-1 : EReal) = ((-(1 : ℝ) : ℝ) : EReal) by rw [EReal.coe_neg, EReal.coe_one]]
  simp [Ideal.ofBits, Ideal.ieee, -EReal.coe_mul, -EReal.coe_neg]
  norm_num

theorem sign1 : Ideal.ofBits FTy.f32 (lit0 (S2.rowMajor (ix1 1))) = (1 : EReal) := by
  have e : (show Fin 2 from S2.rowMajor (ix1 1)) = 1 := Fin.ext (Shape.rowMajor_val_one (d := ![2]) (ix1 1))
  refine (congrArg (fun x => Ideal.ofBits FTy.f32 (lit0 x)) e).trans ?_
  change Ideal.ofBits FTy.f32 0x3F800000#32 = 1
  pointwise

theorem lit1_lane (h : Fin 4) (d : Fin 64) (h' : Fin 4) (e : Fin 64) :
    Ideal.ofBits FTy.f32 (lit1 (S256x256.rowMajor (ix2 (lane h d) (lane h' e)))) = if h = h' then (1 : EReal) else 0 := by
  refine (congrArg (fun x => Ideal.ofBits FTy.f32 (lit1 x)) (rm256 (lane h d) (lane h' e) (lane_lt h d h' e))).trans ?_
  rw [lit1_eq _ _ (lane_lt h d h' e), lane_head, lane_head]
  by_cases e : h = h'
  · rw [if_pos (congrArg Fin.val e), if_pos e]
    pointwise
  · rw [if_neg fun e' => e (Fin.ext e'), if_neg e]
    pointwise

theorem lit2_lane (h : Fin 4) (d : Fin 64) (h' : Fin 4) (e : Fin 64) :
    Ideal.ofBits FTy.f32 (lit2 (S256x256.rowMajor (ix2 (lane h d) (lane h' e)))) = if h = h' then Ideal.ofBits FTy.f32 0x3C800000#32 else 0 := by
  refine (congrArg (fun x => Ideal.ofBits FTy.f32 (lit2 x)) (rm256 (lane h d) (lane h' e) (lane_lt h d h' e))).trans ?_
  rw [lit2_eq _ _ (lane_lt h d h' e), lane_head, lane_head]
  by_cases e : h = h'
  · rw [if_pos (congrArg Fin.val e), if_pos e]
  · rw [if_neg fun e' => e (Fin.ext e'), if_neg e]
    pointwise

variable (V' : Valuation Cert.ReferenceIdeal.τ Cert.ReferenceIdeal.sig (Elt Ideal))

/-- The 32 exponents of the angles' wavelengths, evenly spaced from 0 to 1. -/
def linsp : FVec Ideal S32 .f32 :=
  concatenate S32 0 [⟨S31, (addf (mulf (broadcastInDim S31 ![0] bcast_S1_S31_0 (shapeCast _ (id (constant (F := Ideal) S_ .f32 0x00000000#32)) shapeCasts_S_S1)) (subf (broadcastInDim S31 ![] bcast_S_S31 (constant S_ .f32 0x3F800000#32)) (Host.divf (sitofp .f32 (iotaInDim S31 32 0)) (broadcastInDim S31 ![] bcast_S_S31 (constant S_ .f32 0x41F80000#32))))) (mulf (broadcastInDim S31 ![0] bcast_S1_S31_0 (shapeCast _ (id (constant S_ .f32 0x3F800000#32)) shapeCasts_S_S1)) (Host.divf (sitofp .f32 (iotaInDim S31 32 0)) (broadcastInDim S31 ![] bcast_S_S31 (constant S_ .f32 0x41F80000#32)))))⟩, ⟨S1, (broadcastInDim S1 ![] bcast_S_S1 (id (constant S_ .f32 0x3F800000#32)))⟩] concatenates_S31_S1_S32_d0

/-- The angle of coordinate `d` at position `s`. -/
def ang (s : Fin 2048) (d : Fin 64) : EReal :=
  FloatOps.sitofp (F := Ideal) FTy.f32 (BitVec.ofNat 32 s.val) * Ideal.div 1 (Ideal.pow (Ideal.ofBits .f32 0x461C4000#32) (linsp (ix1 (⟨d.val / 2, by omega⟩ : Fin 32))))

theorem rd_v1 (σ : Valuation τ sig (Elt Ideal)) : StableHlo.after hostOps0_1 (StableHlo.after hostOps0 σ) (Proc.devRef .tc main_v1) = linsp := rfl

theorem rd_v0 (σ : Valuation τ sig (Elt Ideal)) : StableHlo.after hostOps0_1 (StableHlo.after hostOps0 σ) (Proc.devRef .tc main_v0) = (sitofp .f32 (iotaInDim S2048 32 0) : FVec Ideal S2048 .f32) := rfl

theorem rd_cst (σ : Valuation τ sig (Elt Ideal)) : StableHlo.after hostOps0_1 (StableHlo.after hostOps0 σ) (Proc.devRef .tc main_cst) = (fun i => FloatOps.ofBits .f32 (lit0 (S2.rowMajor i)) : FVec Ideal S2 .f32) := rfl

theorem rd_v19 (σ : Valuation τ sig (Elt Ideal)) (L : FVec Ideal S32 .f32) (hL : σ (Proc.devRef .tc main_v1) = L) (P : FVec Ideal S2048 .f32) (hP : σ (Proc.devRef .tc main_v0) = P)
    (s : Fin 2048) (h : Fin 4) (d : Fin 64) : StableHlo.after hostOps0_2 σ (Proc.devRef .tc main_v19) (ix2 s (lane h d))
      = Ideal.cos (P (ix1 s) * Ideal.div 1 (Ideal.pow (Ideal.ofBits .f32 0x461C4000#32) (L (ix1 (⟨d.val / 2, by omega⟩ : Fin 32))))) := by
  simp only [hostOps0_2]
  entry_read
  rw [hL, hP]
  clean_types
  pointwise
  simp only [lane_off]

theorem rd_v26 (σ : Valuation τ sig (Elt Ideal)) (L : FVec Ideal S32 .f32) (hL : σ (Proc.devRef .tc main_v1) = L) (P : FVec Ideal S2048 .f32) (hP : σ (Proc.devRef .tc main_v0) = P)
    (S : FVec Ideal S2 .f32) (hS : σ (Proc.devRef .tc main_cst) = S)
    (s : Fin 2048) (h : Fin 4) (d : Fin 64) : StableHlo.after hostOps0_2 σ (Proc.devRef .tc main_v26) (ix2 s (lane h d))
      = Ideal.sin (P (ix1 s) * Ideal.div 1 (Ideal.pow (Ideal.ofBits .f32 0x461C4000#32) (L (ix1 (⟨d.val / 2, by omega⟩ : Fin 32))))) * S (ix1 (⟨d.val % 2, by omega⟩ : Fin 2)) := by
  simp only [hostOps0_2]
  entry_read
  rw [hL, hP, hS]
  clean_types
  pointwise
  simp only [lane_off]

theorem V_stages (c : Dev nD) (b : Ref sig .tc) : V m c b = StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc b) := by
  unfold V
  simp only [List.flatten_cons, List.flatten_nil, List.append_nil, StableHlo.after_append]

theorem late_v19 (σ : Valuation τ sig (Elt Ideal)) : StableHlo.after hostOps0_6 (StableHlo.after hostOps0_5 (StableHlo.after hostOps0_4 (StableHlo.after hostOps0_3 σ))) (Proc.devRef .tc main_v19) = σ (Proc.devRef .tc main_v19) := rfl

theorem late_v26 (σ : Valuation τ sig (Elt Ideal)) : StableHlo.after hostOps0_6 (StableHlo.after hostOps0_5 (StableHlo.after hostOps0_4 (StableHlo.after hostOps0_3 σ))) (Proc.devRef .tc main_v26) = σ (Proc.devRef .tc main_v26) := rfl

theorem late_v51 (σ : Valuation τ sig (Elt Ideal)) : StableHlo.after hostOps0_6 (StableHlo.after hostOps0_5 (StableHlo.after hostOps0_4 (StableHlo.after hostOps0_3 σ))) (Proc.devRef .tc main_v51)
    = (select (broadcastInDim S4x128x128 ![1, 2] bcast_S128x128_S4x128x128_1_2 (show IVec S128x128 1 from σ (Proc.devRef .tc main_v42))) (show FVec Ideal S4x128x128 .f32 from σ (Proc.devRef .tc main_v50))
      (broadcastInDim S4x128x128 ![] bcast_S_S4x128x128 (show FVec Ideal S_ .f32 from σ (Proc.devRef .tc main_cst_11))) : FVec Ideal S4x128x128 .f32) := rfl

theorem ref_ang (s : Fin 2048) (d : Fin 64) : Cert.ReferenceIdeal.Value.res_main_v42 V' (ix3 s 0 d) = ang s d := by
  have e : Cert.ReferenceIdeal.Value.res_main_v42 V' = (broadcastInDim Cert.ReferenceIdeal.S2048x1x64 ![0, 2] Cert.ReferenceIdeal.Gen.bcast_S2048x64_S2048x1x64_0_2 (shapeCast Cert.ReferenceIdeal.S2048x64 (broadcastInDim Cert.ReferenceIdeal.S2048x32x2 ![0, 1] Cert.ReferenceIdeal.Gen.bcast_S2048x32_S2048x32x2_0_1 (mulf (broadcastInDim Cert.ReferenceIdeal.S2048x32 ![0, 1] Cert.ReferenceIdeal.Gen.bcast_S2048x1_S2048x32_0_1 (broadcastInDim Cert.ReferenceIdeal.S2048x1 ![0] Cert.ReferenceIdeal.Gen.bcast_S2048_S2048x1_0 (sitofp .f32 (iotaInDim Cert.ReferenceIdeal.S2048 32 0)))) (broadcastInDim Cert.ReferenceIdeal.S2048x32 ![0, 1] Cert.ReferenceIdeal.Gen.bcast_S1x32_S2048x32_0_1 (broadcastInDim Cert.ReferenceIdeal.S1x32 ![1] Cert.ReferenceIdeal.Gen.bcast_S32_S1x32_1 (Host.divf (broadcastInDim Cert.ReferenceIdeal.S32 ![] Cert.ReferenceIdeal.Gen.bcast_S_S32 (constant Cert.ReferenceIdeal.S_ .f32 0x3F800000#32)) (Host.powf (broadcastInDim Cert.ReferenceIdeal.S32 ![] Cert.ReferenceIdeal.Gen.bcast_S_S32 (constant Cert.ReferenceIdeal.S_ .f32 0x461C4000#32)) linsp)))))) Cert.ReferenceIdeal.Gen.shapeCasts_S2048x32x2_S2048x64) : FVec Ideal Cert.ReferenceIdeal.S2048x1x64 .f32) := rfl
  rw [e]
  pointwise [ang]

theorem ent6 (c : Dev nD) (s : Fin 2048) (h : Fin 4) (d : Fin 64) : V m c main_v19 (ix2 s (lane h d)) = cr V' s d := by
  rw [V_stages, late_v19, rd_v19 _ _ (rd_v1 _) _ (rd_v0 _)]
  unfold cr Cert.ReferenceIdeal.Value.res_main_v43
  clean_types
  pointwise
  rw [ref_ang, ang]

theorem ent7 (c : Dev nD) (s : Fin 2048) (h : Fin 4) (d : Fin 64) : V m c main_v26 (ix2 s (lane h d)) =
    (if d.val % 2 = 0 then -sr V' s d else sr V' s d) := by
  rw [V_stages, late_v26, rd_v26 _ _ (rd_v1 _) _ (rd_v0 _) _ (rd_cst _)]
  unfold sr Cert.ReferenceIdeal.Value.res_main_v44
  clean_types
  pointwise
  rw [ref_ang, ang]
  split_ifs with e
  · rw [show (⟨d.val % 2, by omega⟩ : Fin 2) = 0 from Fin.ext e]
    rw [sign0, mul_neg, mul_one]
  · rw [show (⟨d.val % 2, by omega⟩ : Fin 2) = 1 from Fin.ext (by change d.val % 2 = 1; omega)]
    rw [sign1, mul_one]

theorem rd_v42 (σ : Valuation τ sig (Elt Ideal)) : StableHlo.after hostOps0_2 σ (Proc.devRef .tc main_v42) =
    (cmpf (F := Ideal) (φ := .f32) CmpFPredicate.oge (subf
      (broadcastInDim S128x128 ![0, 1] bcast_S128x1_S128x128_0_1 (broadcastInDim S128x1 ![0] bcast_S128_S128x1_0 (sitofp FTy.f32 (iotaInDim S128 32 0))))
      (broadcastInDim S128x128 ![0, 1] bcast_S1x128_S128x128_0_1 (broadcastInDim S1x128 ![1] bcast_S128_S1x128_1 (sitofp FTy.f32 (iotaInDim S128 32 0))))) (broadcastInDim S128x128 ![] bcast_S_S128x128 (constant S_ FTy.f32 0#32)) : IVec S128x128 1) := rfl

theorem rd_v50 (σ : Valuation τ sig (Elt Ideal)) : StableHlo.after hostOps0_2 σ (Proc.devRef .tc main_v50) =
    (Host.exp (mulf
      (broadcastInDim S4x128x128 ![0, 1, 2] bcast_S4x1x1_S4x128x128_0_1_2 (broadcastInDim S4x1x1 ![0] bcast_S4_S4x1x1_0
        (Host.log (subf (broadcastInDim S4 ![] bcast_S_S4 (constant S_ FTy.f32 1065353216#32))
          (Host.powf (broadcastInDim S4 ![] bcast_S_S4 (constant S_ FTy.f32 1073741824#32))
            (subf (broadcastInDim S4 ![] bcast_S_S4 (constant S_ FTy.f32 3231711232#32)) (sitofp FTy.f32 (iotaInDim S4 32 0))))))))
      (broadcastInDim S4x128x128 ![0, 1, 2] bcast_S1x128x128_S4x128x128_0_1_2 (broadcastInDim S1x128x128 ![1, 2] bcast_S128x128_S1x128x128_1_2
        (maximumf (subf
      (broadcastInDim S128x128 ![0, 1] bcast_S128x1_S128x128_0_1 (broadcastInDim S128x1 ![0] bcast_S128_S128x1_0 (sitofp FTy.f32 (iotaInDim S128 32 0))))
      (broadcastInDim S128x128 ![0, 1] bcast_S1x128_S128x128_0_1 (broadcastInDim S1x128 ![1] bcast_S128_S1x128_1 (sitofp FTy.f32 (iotaInDim S128 32 0))))) (broadcastInDim S128x128 ![] bcast_S_S128x128 (constant S_ FTy.f32 0#32)))))) : FVec Ideal S4x128x128 .f32) := rfl

theorem rd_cst11 (σ : Valuation τ sig (Elt Ideal)) : StableHlo.after hostOps0_2 σ (Proc.devRef .tc main_cst_11) = (constant (F := Ideal) S_ .f32 0#32 : FVec Ideal S_ .f32) := rfl

theorem ent8 (c : Dev nD) (h : Fin 4) (r n : Fin 128) : V m c main_v51 (ix3 h r n) = dmr V' h r n := by
  rw [V_stages, late_v51, rd_v42, rd_v50, rd_cst11]
  unfold dmr pr lr Cert.ReferenceIdeal.Value.res_main_v91 Cert.ReferenceIdeal.Value.res_main_v92
  clean_types
  pointwise

set_option maxHeartbeats 4000000 in
theorem ent9 (c : Dev nD) (r : Fin 128) (h : Fin 4) (d : Fin 64) : V m c main_v73 (ix2 r (lane h d)) =
    qdr V' h r := by
  simp only [V, hostOps0, hostOps0_1, hostOps0_2, hostOps0_3, hostOps0_4, hostOps0_5, hostOps0_6, List.flatten_cons, List.flatten_nil, List.append_nil, List.cons_append, List.nil_append]
  entry_read
  unfold qdr pr lr Cert.ReferenceIdeal.Value.res_main_v91 Cert.ReferenceIdeal.Value.res_main_v92
  clean_types
  pointwise
  rw [lane_head]

set_option maxHeartbeats 4000000 in
theorem ent10 (c : Dev nD) (r : Fin 128) (h : Fin 4) (d : Fin 64) : V m c main_v62 (ix2 r (lane h d)) =
    kdr V' h r := by
  simp only [V, hostOps0, hostOps0_1, hostOps0_2, hostOps0_3, hostOps0_4, hostOps0_5, hostOps0_6, List.flatten_cons, List.flatten_nil, List.append_nil, List.cons_append, List.nil_append]
  entry_read
  unfold kdr pr lr Cert.ReferenceIdeal.Value.res_main_v91 Cert.ReferenceIdeal.Value.res_main_v92
  clean_types
  pointwise
  rw [lane_head]

set_option maxHeartbeats 4000000 in
theorem ent11 (c : Dev nD) (h : Fin 4) (d : Fin 64) (h' : Fin 4) (e : Fin 64) : V m c main_v81 (ix2 (lane h d) (lane h' e)) =
    if h = h' then cdr V' h else 0 := by
  simp only [V, hostOps0, hostOps0_1, hostOps0_2, hostOps0_3, hostOps0_4, hostOps0_5, hostOps0_6, List.flatten_cons, List.flatten_nil, List.append_nil, List.cons_append, List.nil_append]
  entry_read
  unfold cdr lr Cert.ReferenceIdeal.Value.res_main_v91
  clean_types
  pointwise
  rw [lane_head, lit1_lane]
  split_ifs with e
  · rw [one_mul]
  · rw [zero_mul]

set_option maxHeartbeats 4000000 in
theorem ent12 (c : Dev nD) (h : Fin 4) (d : Fin 64) (h' : Fin 4) (e : Fin 64) : V m c main_cst_0 (ix2 (lane h d) (lane h' e)) =
    if h = h' then (1 : EReal) else 0 := by
  simp only [V, hostOps0, hostOps0_1, hostOps0_2, hostOps0_3, hostOps0_4, hostOps0_5, hostOps0_6, List.flatten_cons, List.flatten_nil, List.append_nil, List.cons_append, List.nil_append]
  entry_read
  pointwise
  exact lit1_lane h d h' e

set_option maxHeartbeats 4000000 in
theorem ent5 (c : Dev nD) (h : Fin 4) (d : Fin 64) (h' : Fin 4) (e : Fin 64) : V m c main_v82 (ix2 (lane h d) (lane h' e)) =
    if h = h' then Ideal.ofBits .f32 0x3C800000#32 else 0 := by
  simp only [V, hostOps0, hostOps0_1, hostOps0_2, hostOps0_3, hostOps0_4, hostOps0_5, hostOps0_6, List.flatten_cons, List.flatten_nil, List.append_nil, List.cons_append, List.nil_append]
  entry_read
  pointwise
  exact lit2_lane h d h' e

end Cert.KernelIdeal.RefValue
-- ==== Proof.Win.lean ====
/- The first call's input blocks at an entry, and the tile's projection as the reference's. -/
module

public import proofs.«01_k».proof.Proof.Blocks
public import proofs.«01_k».proof.Proof.Wall
public import proofs.«01_k».proof.Proof.Tabs

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.ReferenceIdeal.RefValue (zr cr sr lr pr qr kr vr kdr qdr cdr dmr kvr stR xr gr wr proj r13)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 2, 0]
    ∧ win0_7.index t = ![t.val % 2, 0] ∧ win0_8.index t = ![0, 0, 0] ∧ win0_9.index t = ![0, 0] ∧ win0_10.index t = ![0, 0]
    ∧ win0_11.index t = ![0, 0] ∧ win0_12.index t = ![0, 0] ∧ win0_13.index t = ![0, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] :=
  (by decide +kernel : ∀ t : Fin grid0.N, _)

variable (m : (ℓ : Loc nD τ sig) → Buf (Elt Ideal) ℓ)

theorem blk0 (c : Dev nD) (t : Fin cfg0.N) (r k : Fin 1024) : iblk m c 0 t (ix2 r k) = V m c main_v83 (ix2 (⟨t.val * 1024 + r.val, by have ht : t.val < 64 := t.isLt; omega⟩ : Fin 65536) k) := by
  have ht : t.val < 64 := t.isLt
  have e := idx t
  have he : ((View.whole main_v83).slice (win0_0.rect t)).emb (ix2 r k) = ix2 (⟨t.val * 1024 + r.val, by have ht : t.val < 64 := t.isLt; omega⟩ : Fin 65536) k := by blk_ext [e]
  blk_simp [iblk, e]
  exact congrArg _ he

theorem blk1 (c : Dev nD) (t : Fin cfg0.N) (k : Fin 1024) : iblk m c 1 t (ix2 (0 : Fin 1) k) = V m c main_v98 (ix2 (0 : Fin 1) k) := by
  have ht : t.val < 64 := t.isLt
  have e := idx t
  have he : ((View.whole main_v98).slice (win0_1.rect t)).emb (ix2 (0 : Fin 1) k) = ix2 (0 : Fin 1) k := by blk_ext [e]
  blk_simp [iblk, e]
  exact congrArg _ he

theorem blk2 (c : Dev nD) (t : Fin cfg0.N) (k : Fin 1024) (j : Fin 3200) : iblk m c 2 t (ix2 k j) = V m c main_v89 (ix2 k j) := by
  have ht : t.val < 64 := t.isLt
  have e := idx t
  have he : ((View.whole main_v89).slice (win0_2.rect t)).emb (ix2 k j) = ix2 k j := by blk_ext [e]
  blk_simp [iblk, e]
  exact congrArg _ he

theorem blk3 (c : Dev nD) (t : Fin cfg0.N) (j : Fin 256) : iblk m c 3 t (ix2 (0 : Fin 1) j) = V m c main_v93 (ix2 (0 : Fin 1) j) := by
  have ht : t.val < 64 := t.isLt
  have e := idx t
  have he : ((View.whole main_v93).slice (win0_3.rect t)).emb (ix2 (0 : Fin 1) j) = ix2 (0 : Fin 1) j := by blk_ext [e]
  blk_simp [iblk, e]
  exact congrArg _ he

theorem blk4 (c : Dev nD) (t : Fin cfg0.N) (j : Fin 256) : iblk m c 4 t (ix2 (0 : Fin 1) j) = V m c main_v101 (ix2 (0 : Fin 1) j) := by
  have ht : t.val < 64 := t.isLt
  have e := idx t
  have he : ((View.whole main_v101).slice (win0_4.rect t)).emb (ix2 (0 : Fin 1) j) = ix2 (0 : Fin 1) j := by blk_ext [e]
  blk_simp [iblk, e]
  exact congrArg _ he

theorem blk5 (c : Dev nD) (t : Fin cfg0.N) (i j : Fin 256) : iblk m c 5 t (ix2 i j) = V m c main_v82 (ix2 i j) := by
  have ht : t.val < 64 := t.isLt
  have e := idx t
  have he : ((View.whole main_v82).slice (win0_5.rect t)).emb (ix2 i j) = ix2 i j := by blk_ext [e]
  blk_simp [iblk, e]
  exact congrArg _ he

theorem blk6 (c : Dev nD) (t : Fin cfg0.N) (r : Fin 1024) (j : Fin 256) : iblk m c 6 t (ix2 r j) = V m c main_v19 (ix2 (⟨t.val % 2 * 1024 + r.val, by omega⟩ : Fin 2048) j) := by
  have ht : t.val < 64 := t.isLt
  have e := idx t
  have he : ((View.whole main_v19).slice (win0_6.rect t)).emb (ix2 r j) = ix2 (⟨t.val % 2 * 1024 + r.val, by omega⟩ : Fin 2048) j := by blk_ext [e]
  blk_simp [iblk, e]
  exact congrArg _ he

theorem blk7 (c : Dev nD) (t : Fin cfg0.N) (r : Fin 1024) (j : Fin 256) : iblk m c 7 t (ix2 r j) = V m c main_v26 (ix2 (⟨t.val % 2 * 1024 + r.val, by omega⟩ : Fin 2048) j) := by
  have ht : t.val < 64 := t.isLt
  have e := idx t
  have he : ((View.whole main_v26).slice (win0_7.rect t)).emb (ix2 r j) = ix2 (⟨t.val % 2 * 1024 + r.val, by omega⟩ : Fin 2048) j := by blk_ext [e]
  blk_simp [iblk, e]
  exact congrArg _ he

theorem blk8 (c : Dev nD) (t : Fin cfg0.N) (h : Fin 4) (i j : Fin 128) : iblk m c 8 t (ix3 h i j) = V m c main_v51 (ix3 h i j) := by
  have ht : t.val < 64 := t.isLt
  have e := idx t
  have he : ((View.whole main_v51).slice (win0_8.rect t)).emb (ix3 h i j) = ix3 h i j := by blk_ext [e]
  blk_simp [iblk, e]
  exact congrArg _ he

theorem blk9 (c : Dev nD) (t : Fin cfg0.N) (r : Fin 128) (j : Fin 256) : iblk m c 9 t (ix2 r j) = V m c main_v73 (ix2 r j) := by
  have ht : t.val < 64 := t.isLt
  have e := idx t
  have he : ((View.whole main_v73).slice (win0_9.rect t)).emb (ix2 r j) = ix2 r j := by blk_ext [e]
  blk_simp [iblk, e]
  exact congrArg _ he

theorem blk10 (c : Dev nD) (t : Fin cfg0.N) (r : Fin 128) (j : Fin 256) : iblk m c 10 t (ix2 r j) = V m c main_v62 (ix2 r j) := by
  have ht : t.val < 64 := t.isLt
  have e := idx t
  have he : ((View.whole main_v62).slice (win0_10.rect t)).emb (ix2 r j) = ix2 r j := by blk_ext [e]
  blk_simp [iblk, e]
  exact congrArg _ he

theorem blk11 (c : Dev nD) (t : Fin cfg0.N) (i j : Fin 256) : iblk m c 11 t (ix2 i j) = V m c main_v81 (ix2 i j) := by
  have ht : t.val < 64 := t.isLt
  have e := idx t
  have he : ((View.whole main_v81).slice (win0_11.rect t)).emb (ix2 i j) = ix2 i j := by blk_ext [e]
  blk_simp [iblk, e]
  exact congrArg _ he

theorem blk12 (c : Dev nD) (t : Fin cfg0.N) (i j : Fin 256) : iblk m c 12 t (ix2 i j) = V m c main_cst_0 (ix2 i j) := by
  have ht : t.val < 64 := t.isLt
  have e := idx t
  have he : ((View.whole main_cst_0).slice (win0_12.rect t)).emb (ix2 i j) = ix2 i j := by blk_ext [e]
  blk_simp [iblk, e]
  exact congrArg _ he

theorem blk13 (c : Dev nD) (t : Fin cfg0.N) (i : Fin 3) (j : Fin 256) : iblk m c 13 t (ix2 i j) = V m c main_arg3 (ix2 i j) := by
  have ht : t.val < 64 := t.isLt
  have e := idx t
  have he : ((View.whole main_arg3).slice (win0_13.rect t)).emb (ix2 i j) = ix2 i j := by blk_ext [e]
  blk_simp [iblk, e]
  exact congrArg _ he

/-- The kernel's arguments are the reference's. -/
structure Agree (c : Dev nD) (V' : Valuation Cert.ReferenceIdeal.τ Cert.ReferenceIdeal.sig (Elt Ideal)) : Prop where
  x : ∀ b s k, m (c.tc.loc main_arg0) (ix3 b s k) = xr V' b s k
  g : ∀ k, m (c.tc.loc main_arg1) (ix1 k) = gr V' k
  w : ∀ k j, m (c.tc.loc main_arg2) (ix2 k j) = wr V' k j
  cw : ∀ (i : Fin 3) (j : Fin 256), m (c.tc.loc main_arg3) (ix2 i j) = V' (Proc.devRef .tc Cert.ReferenceIdeal.main_arg3) (ix2 i j)
  qg : ∀ k : Fin 64, m (c.tc.loc main_arg4) (ix1 k) = V' (Proc.devRef .tc Cert.ReferenceIdeal.main_arg4) (ix1 k)
  kg : ∀ k : Fin 64, m (c.tc.loc main_arg5) (ix1 k) = V' (Proc.devRef .tc Cert.ReferenceIdeal.main_arg5) (ix1 k)

theorem pay6_apply (x : Vec Ideal S1024x1024 .f32) (g : Vec Ideal S1x1024 .f32) (w : Vec Ideal S1024x3200 .bf16) (r : Fin 1024) (j : Fin 3200) :
    k0_pay6 x g w (ix2 r j) = proj (fun k => x (ix2 r k)) (fun k => g (ix2 0 k)) (fun k => w (ix2 k j)) := by
  unfold proj
  pointwise [k0_pay6]

variable {m}

/-- The sequence of point `t`'s rows. -/
abbrev bOf (t : Fin cfg0.N) : Fin 32 := ⟨t.val / 2, by have ht : t.val < 64 := t.isLt; omega⟩

theorem z_any {c : Dev nD} {V'} (A : Agree m c V') (t : Fin cfg0.N) (r : Fin 1024) (j : Fin 3200) (s : Fin 2048) (hs : s.val = 1024 * (t.val % 2) + r.val) :
    zT m c t (ix2 r j) = proj (xr V' (bOf t) s) (gr V') fun k => wall (m (c.tc.loc main_arg2)) (ix2 k j) := by
  have ht : t.val < 64 := t.isLt
  rw [zT, pay6_apply]
  have e0 : (⟨(t.val * 1024 + r.val) / 2048, by omega⟩ : Fin 32) = bOf t := Fin.ext (by simp only; omega)
  have e1 : (⟨(t.val * 1024 + r.val) % 2048, by omega⟩ : Fin 2048) = s := Fin.ext (by simp only; omega)
  have hx : (fun k => iblk m c 0 t (ix2 r k)) = xr V' (bOf t) s := by
    funext k
    exact (blk0 m c t r k).trans ((ent0 m c _ k).trans ((A.x _ _ k).trans (by rw [e0, e1])))
  have hg : (fun k => iblk m c 1 t (ix2 0 k)) = gr V' := by
    funext k
    exact (blk1 m c t k).trans ((ent1 m c k).trans (A.g k))
  have hw : (fun k => iblk m c 2 t (ix2 k j)) = fun k => wall (m (c.tc.loc main_arg2)) (ix2 k j) := by
    funext k
    exact (blk2 m c t k j).trans (congrFun (V_v89 m c) _)
  rw [hx, hg, hw]

/-- The tile's projection: the columns of the sparse attention, of its gates, the padding, and the mixers' columns. -/
theorem z_a {c : Dev nD} {V'} (A : Agree m c V') (t : Fin cfg0.N) (r : Fin 1024) (j : Fin 3200) (s : Fin 2048) (hs : s.val = 1024 * (t.val % 2) + r.val)
    (j' : Fin 3096) (hj : j.val < 1280) (hj' : j'.val = 1792 + j.val) : zT m c t (ix2 r j) = zr V' (bOf t) s j' := by
  rw [z_any A t r j s hs, r13]
  congr 1
  funext k
  refine (wall_a _ k ⟨j.val, hj⟩).trans ((A.w k _).trans (congrArg _ (Fin.ext hj'.symm)))

theorem z_b {c : Dev nD} {V'} (A : Agree m c V') (t : Fin cfg0.N) (r : Fin 1024) (j : Fin 24) (s : Fin 2048) (hs : s.val = 1024 * (t.val % 2) + r.val) :
    zT m c t (ix2 r ⟨1280 + j.val, by omega⟩) = zr V' (bOf t) s ⟨3072 + j.val, by omega⟩ := by
  rw [z_any A t r _ s hs, r13]
  congr 1
  funext k
  exact (wall_b _ k j).trans (A.w k _)

theorem z_z {c : Dev nD} {V'} (A : Agree m c V') (t : Fin cfg0.N) (r : Fin 1024) (j : Fin 104) (s : Fin 2048) (hs : s.val = 1024 * (t.val % 2) + r.val) :
    zT m c t (ix2 r ⟨1304 + j.val, by omega⟩) = 0 := by
  rw [z_any A t r _ s hs]
  unfold proj
  simp only [wall_z, mul_zero, Finset.sum_const_zero]

theorem z_c {c : Dev nD} {V'} (A : Agree m c V') (t : Fin cfg0.N) (r : Fin 1024) (j : Fin 3200) (s : Fin 2048) (hs : s.val = 1024 * (t.val % 2) + r.val)
    (j' : Fin 3096) (hj : j.val = 1408 + j'.val) (hj' : j'.val < 1792) : zT m c t (ix2 r j) = zr V' (bOf t) s j' := by
  rw [z_any A t r j s hs, r13]
  congr 1
  funext k
  have e : j = ⟨1408 + (⟨j'.val, hj'⟩ : Fin 1792).val, by omega⟩ := Fin.ext hj
  rw [e]
  exact (wall_c _ k ⟨j'.val, hj'⟩).trans (A.w k _)

end Cert.KernelIdeal.RefValue

end
-- ==== Proof.Heads.lean ====
/- The first call's retention: the tile's queries, keys, values, state and outputs are the reference's. -/
module

public import proofs.«01_k».proof.Proof.Win

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.ReferenceIdeal.RefValue (zr cr sr lr pr qr kr vr kdr qdr cdr dmr kvr stR xr gr wr proj r13 qr_e qr_o kr_e kr_o vr_eq outr)

variable {m : (ℓ : Loc nD τ sig) → Buf (Elt Ideal) ℓ} {c : Dev nD} {V' : Valuation Cert.ReferenceIdeal.τ Cert.ReferenceIdeal.sig (Elt Ideal)}

theorem tabT (A : Agree m c V') (t : Fin cfg0.N) (R : Fin 1024) (s : Fin 2048) (hs : s.val = 1024 * (t.val % 2) + R.val) (h : Fin 4) (d : Fin 64) :
    iblk m c 6 t (ix2 R (lane h d)) = cr V' s d := by
  refine (blk6 m c t R _).trans ((ent6 m V' c _ h d).trans (congrArg (fun x => cr V' x d) (Fin.ext ?_)))
  simp only
  omega

theorem tabU (A : Agree m c V') (t : Fin cfg0.N) (R : Fin 1024) (s : Fin 2048) (hs : s.val = 1024 * (t.val % 2) + R.val) (h : Fin 4) (d : Fin 64) :
    iblk m c 7 t (ix2 R (lane h d)) = if d.val % 2 = 0 then -sr V' s d else sr V' s d := by
  refine (blk7 m c t R _).trans ((ent7 m V' c _ h d).trans (congrArg (fun x => if d.val % 2 = 0 then -sr V' x d else sr V' x d) (Fin.ext ?_)))
  simp only
  omega

theorem rot_ok_even (A : Agree m c V') (t : Fin cfg0.N) (R : ℕ) (hR : R + 128 ≤ 1024) (C : ℕ) (hC : C + 256 ≤ 3200) (r : Fin 128) (h : Fin 4) (p : Fin 32)
    (s : Fin 2048) (hs : s.val = 1024 * (t.val % 2) + (R + r.val)) (j j' : Fin 3096) (hj : C + (64 * h.val + 2 * p.val) = 1408 + j.val)
    (hj' : C + (64 * h.val + (1 + 2 * p.val)) = 1408 + j'.val) :
    rot (zc (zT m c t) R C hR hC) (tb (iblk m c 6 t) R hR) (tb (iblk m c 7 t) R hR) (ix2 r (lane h ⟨2 * p.val, by omega⟩))
      = zr V' (bOf t) s j * cr V' s ⟨2 * p.val, by omega⟩ + (-zr V' (bOf t) s j') * sr V' s ⟨2 * p.val, by omega⟩ := by
  rw [rot_cut_even, z_c A t _ _ s hs j hj (by omega), z_c A t _ _ s hs j' hj' (by omega)]
  rw [tabT A t _ s hs, tabU A t _ s hs, if_pos (by simp only; omega), mul_neg, neg_mul]

theorem rot_ok_odd (A : Agree m c V') (t : Fin cfg0.N) (R : ℕ) (hR : R + 128 ≤ 1024) (C : ℕ) (hC : C + 256 ≤ 3200) (r : Fin 128) (h : Fin 4) (p : Fin 32)
    (s : Fin 2048) (hs : s.val = 1024 * (t.val % 2) + (R + r.val)) (j j' : Fin 3096) (hj : C + (64 * h.val + (2 * p.val + 1)) = 1408 + j.val)
    (hj' : C + (64 * h.val + 2 * p.val) = 1408 + j'.val) :
    rot (zc (zT m c t) R C hR hC) (tb (iblk m c 6 t) R hR) (tb (iblk m c 7 t) R hR) (ix2 r (lane h ⟨2 * p.val + 1, by omega⟩))
      = zr V' (bOf t) s j * cr V' s ⟨2 * p.val + 1, by omega⟩ + zr V' (bOf t) s j' * sr V' s ⟨2 * p.val + 1, by omega⟩ := by
  rw [rot_cut_odd, z_c A t _ _ s hs j hj (by omega), z_c A t _ _ s hs j' hj' (by omega)]
  rw [tabT A t _ s hs, tabU A t _ s hs, if_neg (by simp only; omega)]

theorem even_odd (d : Fin 64) : (∃ p : Fin 32, d = ⟨2 * p.val, by omega⟩) ∨ ∃ p : Fin 32, d = ⟨2 * p.val + 1, by omega⟩ := by
  rcases Nat.mod_two_eq_zero_or_one d.val with h | h
  · exact .inl ⟨⟨d.val / 2, by omega⟩, Fin.ext (by simp only; omega)⟩
  · exact .inr ⟨⟨d.val / 2, by omega⟩, Fin.ext (by simp only; omega)⟩

theorem q_ok (A : Agree m c V') (t : Fin cfg0.N) (R : ℕ) (hR : R + 128 ≤ 1024) (N : Fin 16) (hN : N.val * 128 = 1024 * (t.val % 2) + R)
    (r : Fin 128) (h : Fin 4) (d : Fin 64) :
    qOf (zT m c t) (iblk m c 6 t) (iblk m c 7 t) R hR (ix2 r (lane h d)) = qr V' (bOf t) N r h d := by
  rcases even_odd d with ⟨p, rfl⟩ | ⟨p, rfl⟩
  · rw [qr_e]
    exact rot_ok_even A t R hR 1408 (by omega) r h p _ (by simp only; omega) _ _ (by simp only; omega) (by simp only; omega)
  · rw [qr_o]
    exact rot_ok_odd A t R hR 1408 (by omega) r h p _ (by simp only; omega) _ _ (by simp only; omega) (by simp only; omega)

theorem k_ok (A : Agree m c V') (t : Fin cfg0.N) (R : ℕ) (hR : R + 128 ≤ 1024) (N : Fin 16) (hN : N.val * 128 = 1024 * (t.val % 2) + R)
    (r : Fin 128) (h : Fin 4) (d : Fin 64) :
    kOf (zT m c t) (iblk m c 6 t) (iblk m c 7 t) R hR (ix2 r (lane h d)) = kr V' (bOf t) N r h d := by
  rw [kOf_apply]
  rcases even_odd d with ⟨p, rfl⟩ | ⟨p, rfl⟩
  · rw [kr_e]
    exact congrArg (· * _) (rot_ok_even A t R hR 1664 (by omega) r h p _ (by simp only; omega) _ _ (by simp only; omega) (by simp only; omega))
  · rw [kr_o]
    exact congrArg (· * _) (rot_ok_odd A t R hR 1664 (by omega) r h p _ (by simp only; omega) _ _ (by simp only; omega) (by simp only; omega))

theorem v_ok (A : Agree m c V') (t : Fin cfg0.N) (R : ℕ) (hR : R + 128 ≤ 1024) (N : Fin 16) (hN : N.val * 128 = 1024 * (t.val % 2) + R)
    (r : Fin 128) (h : Fin 4) (d : Fin 64) :
    vOf (zT m c t) R hR (ix2 r (lane h d)) = vr V' (bOf t) N r h d := by
  rw [vOf_apply, vr_eq]
  exact z_c A t _ _ _ (by simp only; omega) _ (by simp only [lane]; omega) (by simp only; omega)

theorem g_ok (A : Agree m c V') (t : Fin cfg0.N) (R : ℕ) (hR : R + 128 ≤ 1024) (N : Fin 16) (hN : N.val * 128 = 1024 * (t.val % 2) + R)
    (r : Fin 128) (h : Fin 4) (d : Fin 64) :
    gOf (zT m c t) R hR (ix2 r (lane h d)) = zr V' (bOf t) ⟨N.val * 128 + r.val, by omega⟩ ⟨768 + (h.val * 64 + d.val), by omega⟩ := by
  rw [gOf_apply]
  exact z_c A t _ _ _ (by simp only; omega) _ (by simp only [lane]; omega) (by simp only; omega)

/-- A state that holds each head's own block. -/
def Holds (V' : Valuation Cert.ReferenceIdeal.τ Cert.ReferenceIdeal.sig (Elt Ideal)) (b : Fin 32) (n : ℕ) (st : Vec Ideal S256x256 .f32) : Prop :=
  ∀ (h : Fin 4) (d : Fin 64) (h' : Fin 4) (e : Fin 64), st (ix2 (lane h d) (lane h' e)) = if h = h' then stR V' b h d e n else 0

theorem st_ok (A : Agree m c V') (t : Fin cfg0.N) (st : Vec Ideal S256x256 .f32) (hst : Holds V' (bOf t) (8 * (t.val % 2)) st) :
    ∀ (n : ℕ) (hn : n ≤ 8), Holds V' (bOf t) (8 * (t.val % 2) + n) (stT m c t st n hn)
  | 0, _ => hst
  | n + 1, hn => fun h d h' e => by
    have hN : 8 * (t.val % 2) + n < 16 := by omega
    refine (step_ok (kOf (zT m c t) (iblk m c 6 t) (iblk m c 7 t) (128 * n) (by omega)) (vOf (zT m c t) (128 * n) (by omega)) (stT m c t st n (by omega))
      (iblk m c 10 t) (iblk m c 11 t) (iblk m c 12 t) (fun r h d => kr V' (bOf t) ⟨8 * (t.val % 2) + n, hN⟩ r h d)
      (fun r h d => vr V' (bOf t) ⟨8 * (t.val % 2) + n, hN⟩ r h d) (kdr V') (fun h d e => stR V' (bOf t) h d e (8 * (t.val % 2) + n)) (cdr V')
      (fun r h d => k_ok A t _ _ _ (by simp only; omega) r h d) (fun r h d => v_ok A t _ _ _ (by simp only; omega) r h d)
      (fun r h d => (blk10 m c t r _).trans (ent10 m V' c r h d)) (fun h d h' e => (blk11 m c t _ _).trans (ent11 m V' c h d h' e))
      (fun h d h' e => (blk12 m c t _ _).trans (ent12 m c h d h' e)) (st_ok A t st hst n (by omega)) h d h' e).trans ?_
    change _ = if h = h' then stR V' (bOf t) h d e (8 * (t.val % 2) + n) * cdr V' h + (if hn : 8 * (t.val % 2) + n < 16 then kvr V' (bOf t) ⟨_, hn⟩ h d e else 0) else 0
    rw [dif_pos hN]
    rfl

theorem pay3_apply (i j : Fin 256) : k0_pay3 (F := Ideal) (ix2 i j) = 0 := by
  pointwise [k0_pay3]

theorem start_even (t : Fin cfg0.N) (h0 : t.val % 2 = 0) : Holds V' (bOf t) (8 * (t.val % 2)) (k0_pay3 (F := Ideal)) := fun h d h' e => by
  rw [pay3_apply, h0]
  change (0 : EReal) = if h = h' then 0 else 0
  split <;> rfl

theorem start_odd (A : Agree m c V') (t : Fin cfg0.N) (h0 : ¬ t.val % 2 = 0) : Holds V' (bOf t) (8 * (t.val % 2))
    (outsAt0 m c (t.val - 1) (Nat.lt_of_le_of_lt (Nat.sub_le _ _) t.isLt)).2.2.2.2.2.2.1 := by
  have ht : t.val < 64 := t.isLt
  let t' : Fin cfg0.N := ⟨t.val - 1, Nat.lt_of_le_of_lt (Nat.sub_le _ _) t.isLt⟩
  have h1 : t'.val % 2 = 0 := by change (t.val - 1) % 2 = 0; omega
  have hb : bOf t' = bOf t := Fin.ext (by change (t.val - 1) / 2 = t.val / 2; omega)
  have H := st_ok A t' _ (start_even t' h1) 8 (le_refl 8)
  rw [hb, h1] at H
  have hm : 8 * (t.val % 2) = 8 * 0 + 8 := by omega
  rw [hm]
  exact (state_A m c t' h1) ▸ H

/-- The block diagonal matrix that takes each head's mean. -/
theorem bd_ok (t : Fin cfg0.N) (h : Fin 4) (d : Fin 64) (h' : Fin 4) (e : Fin 64) :
    k0_pay5 (iblk m c 5 t) (ix2 (lane h d) (lane h' e)) = if h = h' then Ideal.ofBits .f32 0x3C800000#32 else 0 := by
  have e1 : k0_pay5 (iblk m c 5 t) (ix2 (lane h d) (lane h' e)) = iblk m c 5 t (ix2 (lane h d) (lane h' e)) := by
    pointwise [k0_pay5]
  exact e1.trans ((blk5 m c t _ _).trans (ent5 m c h d h' e))

/-- The chunk's normalized and gated output in the reference's terms. -/
def normr (V' : Valuation Cert.ReferenceIdeal.τ Cert.ReferenceIdeal.sig (Elt Ideal)) (b : Fin 32) (n : Fin 16) (r : Fin 128) (h : Fin 4) (e : Fin 64) : EReal :=
  zr V' b ⟨n.val * 128 + r.val, by omega⟩ ⟨768 + (h.val * 64 + e.val), by omega⟩
    * Ideal.logistic (zr V' b ⟨n.val * 128 + r.val, by omega⟩ ⟨768 + (h.val * 64 + e.val), by omega⟩)
    * (outr V' b n r h e * Ideal.rsqrt (Ideal.div (∑ x : Fin 64, outr V' b n r h x * outr V' b n r h x) (Ideal.ofBits .f32 0x42800000#32) + Ideal.ofBits FTy.f32 0x358637BD#32))

theorem n_ok (A : Agree m c V') (t : Fin cfg0.N) (st : Vec Ideal S256x256 .f32) (hst : Holds V' (bOf t) (8 * (t.val % 2)) st) (n : Fin 8)
    (N : Fin 16) (hN : N.val = 8 * (t.val % 2) + n.val) (r : Fin 128) (h : Fin 4) (e : Fin 64) :
    nT m c t st n (ix2 r (lane h e)) = normr V' (bOf t) N r h e :=
  out_ok (k0_pay5 (iblk m c 5 t)) (gOf (zT m c t) (128 * n.val) (by omega)) (qOf (zT m c t) (iblk m c 6 t) (iblk m c 7 t) (128 * n.val) (by omega))
    (kOf (zT m c t) (iblk m c 6 t) (iblk m c 7 t) (128 * n.val) (by omega)) (vOf (zT m c t) (128 * n.val) (by omega)) (iblk m c 8 t)
    (stT m c t st n.val (by omega)) (iblk m c 9 t) (fun r h d => qr V' (bOf t) N r h d) (fun r h d => kr V' (bOf t) N r h d) (fun r h d => vr V' (bOf t) N r h d)
    (fun r h d => zr V' (bOf t) ⟨N.val * 128 + r.val, by omega⟩ ⟨768 + (h.val * 64 + d.val), by omega⟩) (qdr V')
    (fun h d e => stR V' (bOf t) h d e N.val) (dmr V')
    (fun r h d => q_ok A t _ _ _ (by omega) r h d) (fun r h d => k_ok A t _ _ _ (by omega) r h d) (fun r h d => v_ok A t _ _ _ (by omega) r h d)
    (fun r h d => g_ok A t _ _ _ (by omega) r h d) (fun r h d => (blk9 m c t r _).trans (ent9 m V' c r h d))
    (fun h r n => (blk8 m c t h r n).trans (ent8 m V' c h r n))
    (fun h d h' e => by rw [hN]; exact st_ok A t st hst n.val (by omega) h d h' e) (fun h d h' e => bd_ok t h d h' e) (outr V' (bOf t) N) (fun r h e => rfl) r h e

end Cert.KernelIdeal.RefValue

end
-- ==== Proof.RefOut.lean ====
/- The first call's reference: its six results at an entry. -/
module

public import proofs.«01_k».proof.Proof.RefRead

@[expose] public section

set_option maxRecDepth 16384

noncomputable section

namespace Cert.ReferenceIdeal.RefValue

open Cert.ReferenceIdeal Cert.ReferenceIdeal.Value Idealize.ShloMosaic Idealize.ShloMosaic.TcCoe Idealize.SL.Sem

variable (V : Valuation τ sig (Elt Ideal))

/-- What the reference leaves in a buffer. -/
abbrev rout (b : Ref sig .tc) : (Proc.devRef .tc b : DevRef τ sig).ty.Contents (Elt Ideal) := val7 V (Proc.devRef .tc b)

theorem word_zero : FloatOps.sitofp (F := Ideal) FTy.f32 (0#32) = (0 : EReal) := by
  change (((0#32).toInt : ℝ) : EReal) = 0
  simp

/-- A head's coordinates over their root mean square. -/
def unit64 (z : Fin 64 → EReal) (d : Fin 64) : EReal :=
  z d * Ideal.rsqrt (Ideal.div (∑ x, z x * z x) (Ideal.ofBits .f32 0x42800000#32) + Ideal.ofBits .f32 0x358637BD#32)

/-- The retention's output of a row and head, normalized and gated. -/
def normR (b : Fin 32) (n : Fin 16) (r : Fin 128) (h : Fin 4) (e : Fin 64) : EReal :=
  zr V b ⟨n.val * 128 + r.val, by omega⟩ ⟨768 + (h.val * 64 + e.val), by omega⟩
    * Ideal.logistic (zr V b ⟨n.val * 128 + r.val, by omega⟩ ⟨768 + (h.val * 64 + e.val), by omega⟩) * unit64 (outr V b n r h) e

theorem out_ret (b : Fin 32) (n : Fin 16) (r : Fin 128) (h : Fin 4) (e : Fin 64) :
    rout V main_v349 (ix2 (⟨b.val * 2048 + (n.val * 128 + r.val), by omega⟩ : Fin 65536) (⟨h.val * 64 + e.val, by omega⟩ : Fin 512)) = normR V b n r h e := by
  unfold rout
  rw [val7_main_v349]
  unfold res_main_v17 normR unit64
  simp only [← r255]
  unfold zr
  clean_types
  pointwise
  rw [dif_pos (by omega)]
  simp only [show (b.val * 2048 + (n.val * 128 + r.val)) % 2048 = n.val * 128 + r.val by omega]
  rfl

/-- The convolution's input, with the two zeros before the sequence. -/
def upad (b : Fin 32) (s : ℕ) (hs : s < 2050) (l : Fin 256) : EReal :=
  if h : 2 ≤ s then zr V b ⟨s - 2, by omega⟩ ⟨1280 + l.val, by omega⟩ * zr V b ⟨s - 2, by omega⟩ ⟨1536 + l.val, by omega⟩ else 0

theorem out_conv (b : Fin 32) (s : Fin 2048) (l : Fin 256) :
    rout V main_v349 (ix2 (⟨b.val * 2048 + s.val, by omega⟩ : Fin 65536) (⟨256 + l.val, by omega⟩ : Fin 512))
      = zr V b s ⟨1024 + l.val, by omega⟩ * (upad V b s.val (by omega) l * V (Proc.devRef .tc main_arg3) (ix2 (0 : Fin 3) l)
          + upad V b (1 + s.val) (by omega) l * V (Proc.devRef .tc main_arg3) (ix2 (1 : Fin 3) l)
          + upad V b (2 + s.val) (by omega) l * V (Proc.devRef .tc main_arg3) (ix2 (2 : Fin 3) l)) := by
  unfold rout
  rw [val7_main_v349]
  unfold res_main_v270 upad zr
  clean_types
  pointwise
  simp only [word_zero, show (2 ≤ s.val ∧ s.val - 2 < 2048) = (2 ≤ s.val) from propext (by omega),
    show (2 ≤ 1 + s.val ∧ 1 + s.val - 2 < 2048) = (2 ≤ 1 + s.val) from propext (by omega)]

/-- A head's queries, scaled. -/
def qnr (b : Fin 32) (s : Fin 2048) (h : Fin 8) (d : Fin 64) : EReal :=
  unit64 (fun x => zr V b s ⟨1792 + (h.val * 64 + x.val), by omega⟩) d * V (Proc.devRef .tc main_arg4) (ix1 d) * Ideal.ofBits .f32 0x3E000000#32

theorem r308 (b : Fin 32) (s : Fin 2048) (g : Fin 2) (h : Fin 4) (d : Fin 64) :
    res_main_v308 V (ix5 b s g h d) = qnr V b s ⟨g.val * 4 + h.val, by omega⟩ d := by
  unfold res_main_v308 qnr unit64 zr res_main_v293
  clean_types
  pointwise
  have e : ∀ x : Fin 64, (⟨1792 + (g.val * 256 + h.val * 64 + x.val), by omega⟩ : Fin 3096) = ⟨1792 + ((g.val * 4 + h.val) * 64 + x.val), by omega⟩ :=
    fun x => Fin.ext (by simp only; omega)
  simp only [e]

theorem out_q0 (b : Fin 32) (s : Fin 2048) (h : Fin 4) (d : Fin 64) :
    rout V main_v351 (ix2 (⟨b.val * 2048 + s.val, by omega⟩ : Fin 65536) (⟨h.val * 128 + d.val, by omega⟩ : Fin 1024))
      = qnr V b s ⟨h.val, by omega⟩ d := by
  unfold rout
  rw [val7_main_v351]
  clean_types
  pointwise
  rw [dif_pos (by omega), dif_pos (by omega)]
  simp only [show (h.val * 128 + d.val) / 128 = h.val by omega, show (h.val * 128 + d.val) % 128 = d.val by omega]
  exact (r308 V b s 0 h d).trans (congrArg (fun x => qnr V b s x d) (Fin.ext (by change 0 * 4 + h.val = h.val; omega)))

theorem out_q0z (b : Fin 32) (s : Fin 2048) (h : Fin 4) (d : Fin 64) :
    rout V main_v351 (ix2 (⟨b.val * 2048 + s.val, by omega⟩ : Fin 65536) (⟨h.val * 128 + (64 + d.val), by omega⟩ : Fin 1024)) = (0 : EReal) := by
  unfold rout
  rw [val7_main_v351]
  clean_types
  pointwise
  rw [dif_pos (by omega), dif_neg (by omega)]
  exact word_zero

theorem out_q1 (b : Fin 32) (s : Fin 2048) (h : Fin 4) (d : Fin 64) :
    rout V main_v351 (ix2 (⟨b.val * 2048 + s.val, by omega⟩ : Fin 65536) (⟨(4 + h.val) * 128 + (64 + d.val), by omega⟩ : Fin 1024))
      = qnr V b s ⟨4 + h.val, by omega⟩ d := by
  unfold rout
  rw [val7_main_v351]
  clean_types
  pointwise
  rw [dif_neg (by omega), dif_pos (by omega)]
  simp only [show ((4 + h.val) * 128 + (64 + d.val)) / 128 - 4 = h.val by omega, show ((4 + h.val) * 128 + (64 + d.val)) % 128 - 64 = d.val by omega]
  exact (r308 V b s 1 h d).trans (congrArg (fun x => qnr V b s x d) (Fin.ext (by change 1 * 4 + h.val = 4 + h.val; omega)))

theorem out_q1z (b : Fin 32) (s : Fin 2048) (h : Fin 4) (d : Fin 64) :
    rout V main_v351 (ix2 (⟨b.val * 2048 + s.val, by omega⟩ : Fin 65536) (⟨(4 + h.val) * 128 + d.val, by omega⟩ : Fin 1024)) = (0 : EReal) := by
  unfold rout
  rw [val7_main_v351]
  clean_types
  pointwise
  rw [dif_neg (by omega), dif_neg (by omega)]
  exact word_zero

theorem out_kc (b : Fin 32) (a : Fin 128) (k : Fin 16) (j : Fin 128) :
    rout V main_v353 (ix2 (⟨b.val * 128 + a.val, by omega⟩ : Fin 4096) (⟨k.val * 128 + j.val, by omega⟩ : Fin 2048))
      = zr V b ⟨a.val * 16 + k.val, by omega⟩ ⟨2304 + j.val, by omega⟩ := by
  unfold rout
  rw [val7_main_v353]
  unfold zr
  clean_types
  pointwise
  simp only [show (b.val * 128 + a.val) % 128 = a.val by omega, show (k.val * 128 + j.val) / 128 = k.val by omega]

theorem out_vc (b : Fin 32) (a : Fin 128) (k : Fin 16) (j : Fin 128) :
    rout V main_v355 (ix2 (⟨b.val * 128 + a.val, by omega⟩ : Fin 4096) (⟨k.val * 128 + j.val, by omega⟩ : Fin 2048))
      = zr V b ⟨a.val * 16 + k.val, by omega⟩ ⟨2432 + j.val, by omega⟩ := by
  unfold rout
  rw [val7_main_v355]
  unfold zr
  clean_types
  pointwise
  simp only [show (b.val * 128 + a.val) % 128 = a.val by omega, show (k.val * 128 + j.val) / 128 = k.val by omega]

theorem out_ks (b : Fin 32) (s : Fin 2048) (g : Fin 2) (d : Fin 64) :
    rout V main_v357 (ix2 (⟨b.val * 2048 + s.val, by omega⟩ : Fin 65536) (⟨g.val * 64 + d.val, by omega⟩ : Fin 512))
      = unit64 (fun x => zr V b s ⟨2560 + (g.val * 64 + x.val), by omega⟩) d * V (Proc.devRef .tc main_arg5) (ix1 d) := by
  unfold rout
  rw [val7_main_v357]
  unfold zr res_main_v316 unit64
  clean_types
  pointwise
  rw [dif_pos (by omega)]

theorem out_vs (b : Fin 32) (s : Fin 2048) (j : Fin 128) :
    rout V main_v357 (ix2 (⟨b.val * 2048 + s.val, by omega⟩ : Fin 65536) (⟨128 + j.val, by omega⟩ : Fin 512))
      = zr V b s ⟨2688 + j.val, by omega⟩ := by
  unfold rout
  rw [val7_main_v357]
  unfold zr
  clean_types
  pointwise

theorem out_kw (b : Fin 32) (s : Fin 2048) (g : Fin 2) (d : Fin 64) :
    rout V main_v357 (ix2 (⟨b.val * 2048 + s.val, by omega⟩ : Fin 65536) (⟨256 + (g.val * 64 + d.val), by omega⟩ : Fin 512))
      = unit64 (fun x => zr V b s ⟨2816 + (g.val * 64 + x.val), by omega⟩) d * V (Proc.devRef .tc main_arg5) (ix1 d) := by
  unfold rout
  rw [val7_main_v357]
  unfold zr res_main_v331 unit64
  clean_types
  pointwise
  rw [dif_neg (by omega), dif_neg (by omega), dif_pos (by omega)]
  simp only [show 256 + (g.val * 64 + d.val) - 128 - 128 = g.val * 64 + d.val by omega, show (g.val * 64 + d.val) / 64 = g.val by omega,
    show (g.val * 64 + d.val) % 64 = d.val by omega]

theorem out_vw (b : Fin 32) (s : Fin 2048) (j : Fin 128) :
    rout V main_v357 (ix2 (⟨b.val * 2048 + s.val, by omega⟩ : Fin 65536) (⟨384 + j.val, by omega⟩ : Fin 512))
      = zr V b s ⟨2944 + j.val, by omega⟩ := by
  unfold rout
  rw [val7_main_v357]
  unfold zr
  clean_types
  pointwise
  rw [dif_neg (by omega), dif_neg (by omega), dif_neg (by omega)]
  simp only [show 384 + j.val - 128 - 128 - 128 = j.val by omega]

theorem out_g (b : Fin 32) (s : Fin 2048) (j : Fin 24) :
    rout V main_v359 (ix2 (⟨b.val * 2048 + s.val, by omega⟩ : Fin 65536) (⟨j.val, by omega⟩ : Fin 128))
      = zr V b s ⟨3072 + j.val, by omega⟩ := by
  unfold rout
  rw [val7_main_v359]
  unfold zr
  clean_types
  pointwise

theorem out_gz (b : Fin 32) (s : Fin 2048) (j : Fin 104) :
    rout V main_v359 (ix2 (⟨b.val * 2048 + s.val, by omega⟩ : Fin 65536) (⟨24 + j.val, by omega⟩ : Fin 128)) = (0 : EReal) := by
  unfold rout
  rw [val7_main_v359]
  clean_types
  pointwise
  exact word_zero

end Cert.ReferenceIdeal.RefValue

end
-- ==== Proof.Rows.lean ====
/- The first call's other outputs at an entry: the queries, the keys and values, the gates, the convolution. -/
module

public import proofs.«01_k».proof.Proof.Heads
public import proofs.«01_k».proof.Proof.RefOut

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.ReferenceIdeal.RefValue (zr unit64 qnr upad)

variable {m : (ℓ : Loc nD τ sig) → Buf (Elt Ideal) ℓ} {c : Dev nD} {V' : Valuation Cert.ReferenceIdeal.τ Cert.ReferenceIdeal.sig (Elt Ideal)}

/-! ## Norms over a head's 64 lanes -/

theorem pay10_apply (bd : FVec Ideal S256x256 .bf16) (X : FVec Ideal S1024x512 .f32) (g : Vec Ideal S1x256 .f32) (r : Fin 1024) (l : Fin 256) :
    k0_pay10 bd X g (ix2 r l) = X (ix2 r ⟨l.val, by omega⟩)
      * Ideal.rsqrt (∑ x : Fin 256, X (ix2 r ⟨x.val, by omega⟩) * X (ix2 r ⟨x.val, by omega⟩) * bd (ix2 x l) + Ideal.ofBits .f32 0x358637BD#32)
      * (g (ix2 0 l) * Ideal.ofBits .f32 0x3E000000#32) := by
  pointwise [k0_pay10, k0_pay8]

theorem pay15_apply (bd : FVec Ideal S256x256 .bf16) (X : FVec Ideal S1024x512 .f32) (g : Vec Ideal S1x256 .f32) (r : Fin 1024) (l : Fin 256) :
    k0_pay15 bd X (k0_pay8 g) (ix2 r l) = X (ix2 r ⟨256 + l.val, by omega⟩)
      * Ideal.rsqrt (∑ x : Fin 256, X (ix2 r ⟨256 + x.val, by omega⟩) * X (ix2 r ⟨256 + x.val, by omega⟩) * bd (ix2 x l) + Ideal.ofBits .f32 0x358637BD#32)
      * (g (ix2 0 l) * Ideal.ofBits .f32 0x3E000000#32) := by
  pointwise [k0_pay15, k0_pay8]

theorem pay7_apply (x : Vec Ideal S1024x1024 .f32) (g : Vec Ideal S1x1024 .f32) (w : Vec Ideal S1024x3200 .bf16) (r : Fin 1024) (j : Fin 512) :
    k0_pay7 x g w (ix2 r j) = k0_pay6 x g w (ix2 r ⟨j.val, by omega⟩) := by
  pointwise [k0_pay7]

theorem lane_mod (h : Fin 4) (d : Fin 64) : (⟨(lane h d).val % 64, by omega⟩ : Fin 64) = d := Fin.ext (lane_off h d)

theorem qgain (A : Agree m c V') (t : Fin cfg0.N) (h : Fin 4) (d : Fin 64) :
    iblk m c 3 t (ix2 (0 : Fin 1) (lane h d)) = V' (Proc.devRef .tc Cert.ReferenceIdeal.main_arg4) (ix1 d) := by
  refine (blk3 m c t _).trans ((ent3 m c _).trans ((A.qg _).trans ?_))
  rw [lane_mod]

theorem kgain (A : Agree m c V') (t : Fin cfg0.N) (h : Fin 4) (d : Fin 64) :
    iblk m c 4 t (ix2 (0 : Fin 1) (lane h d)) = V' (Proc.devRef .tc Cert.ReferenceIdeal.main_arg5) (ix1 d) := by
  refine (blk4 m c t _).trans ((ent4 m c _).trans ((A.kg _).trans ?_))
  rw [lane_mod]

/-- A head's coordinates over their root mean square, as the block diagonal product takes it. -/
theorem over_mean (t : Fin cfg0.N) (h : Fin 4) (d : Fin 64) (f : Fin 256 → EReal) (z : Fin 64 → EReal) (hf : ∀ e, f (lane h e) = z e) :
    f (lane h d) * Ideal.rsqrt (∑ x : Fin 256, f x * f x * k0_pay5 (iblk m c 5 t) (ix2 x (lane h d)) + Ideal.ofBits .f32 0x358637BD#32) = unit64 z d := by
  rw [group_mean h f (fun x => k0_pay5 (iblk m c 5 t) (ix2 x (lane h d))) fun h' e => bd_ok t h' e h d]
  simp only [hf]
  rfl

theorem q_lo (A : Agree m c V') (t : Fin cfg0.N) (r : Fin 1024) (s : Fin 2048) (hs : s.val = 1024 * (t.val % 2) + r.val) (h : Fin 4) (d : Fin 64) :
    k0_pay10 (k0_pay5 (iblk m c 5 t)) (k0_pay7 (iblk m c 0 t) (iblk m c 1 t) (iblk m c 2 t)) (iblk m c 3 t) (ix2 r (lane h d))
      = qnr V' (bOf t) s ⟨h.val, by omega⟩ d := by
  rw [pay10_apply, over_mean t h d (fun l => k0_pay7 (iblk m c 0 t) (iblk m c 1 t) (iblk m c 2 t) (ix2 r ⟨l.val, by omega⟩))
    (fun x => zr V' (bOf t) s ⟨1792 + (h.val * 64 + x.val), by omega⟩) fun e => by
      rw [pay7_apply]
      exact z_a A t r _ s hs _ (by simp only [lane]; omega) (by simp only [lane]; omega), qgain A, ← mul_assoc]
  rfl

theorem q_hi (A : Agree m c V') (t : Fin cfg0.N) (r : Fin 1024) (s : Fin 2048) (hs : s.val = 1024 * (t.val % 2) + r.val) (h : Fin 4) (d : Fin 64) :
    k0_pay15 (k0_pay5 (iblk m c 5 t)) (k0_pay7 (iblk m c 0 t) (iblk m c 1 t) (iblk m c 2 t)) (k0_pay8 (iblk m c 3 t)) (ix2 r (lane h d))
      = qnr V' (bOf t) s ⟨4 + h.val, by omega⟩ d := by
  rw [pay15_apply, over_mean t h d (fun l => k0_pay7 (iblk m c 0 t) (iblk m c 1 t) (iblk m c 2 t) (ix2 r ⟨256 + l.val, by omega⟩))
    (fun x => zr V' (bOf t) s ⟨1792 + ((4 + h.val) * 64 + x.val), by omega⟩) fun e => by
      rw [pay7_apply]
      exact z_a A t r _ s hs _ (by simp only [lane]; omega) (by simp only [lane]; omega), qgain A, ← mul_assoc]
  rfl

/-! ## The queries beside the other group's zeros -/

theorem pay9_apply (r : Fin 1024) (l : Fin 128) : k0_pay9 (ix2 r l) = BitVec.ofNat 32 (l.val / 64) := by
  pointwise [k0_pay9]
  revert l
  decide +kernel

theorem sel_lo0 {α : Type} (d : Fin 64) (a b : α) : Scalar.select (IntOp.cmpi CmpIPredicate.eq (BitVec.ofNat 32 (d.val / 64)) 0#32) a b = a := by
  rw [show d.val / 64 = 0 by omega]
  rfl
theorem sel_hi0 {α : Type} (d : Fin 64) (a b : α) : Scalar.select (IntOp.cmpi CmpIPredicate.eq (BitVec.ofNat 32 ((64 + d.val) / 64)) 0#32) a b = b := by
  rw [show (64 + d.val) / 64 = 1 by omega]
  rfl
theorem sel_lo1 {α : Type} (d : Fin 64) (a b : α) : Scalar.select (IntOp.cmpi CmpIPredicate.eq (BitVec.ofNat 32 (d.val / 64)) 1#32) a b = b := by
  rw [show d.val / 64 = 0 by omega]
  rfl
theorem sel_hi1 {α : Type} (d : Fin 64) (a b : α) : Scalar.select (IntOp.cmpi CmpIPredicate.eq (BitVec.ofNat 32 ((64 + d.val) / 64)) 1#32) a b = a := by
  rw [show (64 + d.val) / 64 = 1 by omega]
  rfl

theorem head_lo (A : FVec Ideal S1024x256 .f32) (r : Fin 1024) (d : Fin 64) :
    k0_pay12 k0_pay9 A (ix2 r ⟨d.val, by omega⟩) = A (ix2 r (lane 1 d)) ∧ k0_pay12 k0_pay9 A (ix2 r ⟨64 + d.val, by omega⟩) = 0
    ∧ k0_pay13 k0_pay9 A (ix2 r ⟨d.val, by omega⟩) = A (ix2 r (lane 2 d)) ∧ k0_pay13 k0_pay9 A (ix2 r ⟨64 + d.val, by omega⟩) = 0
    ∧ k0_pay14 k0_pay9 A (ix2 r ⟨d.val, by omega⟩) = A (ix2 r (lane 3 d)) ∧ k0_pay14 k0_pay9 A (ix2 r ⟨64 + d.val, by omega⟩) = 0 := by
  refine ⟨?_, ?_, ?_, ?_, ?_, ?_⟩
  · pointwise [k0_pay12]
    rw [pay9_apply, sel_lo0]
    exact congrArg (fun x => A (ix2 r x)) (Fin.ext (by simp only [lane]; omega))
  · pointwise [k0_pay12]
    rw [pay9_apply, sel_hi0]
  · pointwise [k0_pay13]
    rw [pay9_apply, sel_lo0]
    exact congrArg (fun x => A (ix2 r x)) (Fin.ext (by simp only [lane]; omega))
  · pointwise [k0_pay13]
    rw [pay9_apply, sel_hi0]
  · pointwise [k0_pay14]
    rw [pay9_apply, sel_lo0]
    exact congrArg (fun x => A (ix2 r x)) (Fin.ext (by simp only [lane]; omega))
  · pointwise [k0_pay14]
    rw [pay9_apply, sel_hi0]

theorem head_first (bd : FVec Ideal S256x256 .bf16) (X : FVec Ideal S1024x512 .f32) (g : Vec Ideal S1x256 .f32) (r : Fin 1024) (d : Fin 64) :
    k0_pay11 bd X g (ix2 r ⟨d.val, by omega⟩) = k0_pay10 bd X g (ix2 r (lane 0 d)) ∧ k0_pay11 bd X g (ix2 r ⟨64 + d.val, by omega⟩) = 0
    ∧ k0_pay18 (k0_pay16 bd X (k0_pay8 g)) (k0_pay17 k0_pay9) (FloatOps.ofBits FTy.f32 0#32) (ix2 r ⟨64 + d.val, by omega⟩) = k0_pay15 bd X (k0_pay8 g) (ix2 r (lane 0 d))
    ∧ k0_pay18 (k0_pay16 bd X (k0_pay8 g)) (k0_pay17 k0_pay9) (FloatOps.ofBits FTy.f32 0#32) (ix2 r ⟨d.val, by omega⟩) = 0 := by
  refine ⟨?_, ?_, ?_, ?_⟩
  · pointwise [k0_pay11]
    rw [pay9_apply, sel_lo0]
    exact congrArg (fun x => k0_pay10 bd X g (ix2 r x)) (Fin.ext (by simp only [lane]; simp))
  · pointwise [k0_pay11]
    rw [pay9_apply, sel_hi0]
  · pointwise [k0_pay18, k0_pay16, k0_pay17]
    rw [pay9_apply, sel_hi1]
    exact congrArg (fun x => k0_pay15 bd X (k0_pay8 g) (ix2 r x)) (Fin.ext (by
      simp only [lane]
      show (64 + d.val + 64) % 128 = 64 * 0 + d.val
      omega))
  · pointwise [k0_pay18, k0_pay16, k0_pay17]
    rw [pay9_apply, sel_lo1]

theorem head_hi (A : FVec Ideal S1024x256 .f32) (r : Fin 1024) (d : Fin 64) :
    k0_pay19 k0_pay9 A (ix2 r ⟨64 + d.val, by omega⟩) = A (ix2 r (lane 1 d)) ∧ k0_pay19 k0_pay9 A (ix2 r ⟨d.val, by omega⟩) = 0
    ∧ k0_pay20 k0_pay9 A (ix2 r ⟨64 + d.val, by omega⟩) = A (ix2 r (lane 2 d)) ∧ k0_pay20 k0_pay9 A (ix2 r ⟨d.val, by omega⟩) = 0
    ∧ k0_pay21 k0_pay9 A (ix2 r ⟨64 + d.val, by omega⟩) = A (ix2 r (lane 3 d)) ∧ k0_pay21 k0_pay9 A (ix2 r ⟨d.val, by omega⟩) = 0 := by
  refine ⟨?_, ?_, ?_, ?_, ?_, ?_⟩
  · pointwise [k0_pay19]
    rw [pay9_apply, sel_hi1]
    exact congrArg (fun x => A (ix2 r x)) (Fin.ext (by simp only [lane]; omega))
  · pointwise [k0_pay19]
    rw [pay9_apply, sel_lo1]
  · pointwise [k0_pay20]
    rw [pay9_apply, sel_hi1]
    exact congrArg (fun x => A (ix2 r x)) (Fin.ext (by simp only [lane]; omega))
  · pointwise [k0_pay20]
    rw [pay9_apply, sel_lo1]
  · pointwise [k0_pay21]
    rw [pay9_apply, sel_hi1]
    exact congrArg (fun x => A (ix2 r x)) (Fin.ext (by simp only [lane]; omega))
  · pointwise [k0_pay21]
    rw [pay9_apply, sel_lo1]

/-! ## The keys and values -/

theorem pay57_apply (bd : FVec Ideal S256x256 .bf16) (Z : FVec Ideal S1024x3200 .f32) (g : Vec Ideal S1x256 .f32) (r : Fin 1024) (l : Fin 256) (f : Fin 256 → EReal)
    (h0 : ∀ x : Fin 128, f ⟨x.val, by omega⟩ = Z (ix2 r ⟨768 + x.val, by omega⟩)) (h1 : ∀ x : Fin 128, f ⟨128 + x.val, by omega⟩ = Z (ix2 r ⟨1024 + x.val, by omega⟩)) :
    k0_pay57 bd Z g (ix2 r l) = f l
      * Ideal.rsqrt (∑ x : Fin 256, f x * f x * bd (ix2 x l) + Ideal.ofBits .f32 0x358637BD#32) * g (ix2 0 l) := by
  have hf : ∀ x : Fin 256, f x = if h : x.val < 128 then Z (ix2 r ⟨768 + x.val, by omega⟩) else Z (ix2 r ⟨1024 + (x.val - 128), by omega⟩) := by
    intro x
    split
    · next h => exact h0 ⟨x.val, h⟩
    · next h => exact (congrArg f (Fin.ext (by simp only; omega))).trans (h1 ⟨x.val - 128, by omega⟩)
  simp only [hf]
  pointwise [k0_pay57, k0_pay56]
  simp only [show ∀ x : ℕ, 768 + (256 + x) = 1024 + x from fun x => by omega]

theorem pay59_apply (Z : FVec Ideal S1024x3200 .f32) (r : Fin 1024) (j : Fin 128) : k0_pay59 Z (ix2 r j) = Z (ix2 r ⟨896 + j.val, by omega⟩) := by
  pointwise [k0_pay59, k0_pay56]
  exact congrArg (fun x => Z (ix2 r x)) (Fin.ext (by simp only; omega))
theorem pay61_apply (Z : FVec Ideal S1024x3200 .f32) (r : Fin 1024) (j : Fin 128) : k0_pay61 Z (ix2 r j) = Z (ix2 r ⟨1152 + j.val, by omega⟩) := by
  pointwise [k0_pay61, k0_pay56]
  exact congrArg (fun x => Z (ix2 r x)) (Fin.ext (by simp only; omega))
theorem pay62_apply (Z : FVec Ideal S1024x3200 .f32) (r : Fin 1024) (j : Fin 128) : k0_pay62 Z (ix2 r j) = Z (ix2 r ⟨1280 + j.val, by omega⟩) := by
  pointwise [k0_pay62]
theorem pay22_apply (Z : FVec Ideal S1024x3200 .f32) (r : Fin 1024) (j : Fin 128) : k0_pay22 Z (ix2 r j) = Z (ix2 r ⟨512 + j.val, by omega⟩) := by
  pointwise [k0_pay22]
theorem pay39_apply (Z : FVec Ideal S1024x3200 .f32) (r : Fin 1024) (j : Fin 128) : k0_pay39 Z (ix2 r j) = Z (ix2 r ⟨640 + j.val, by omega⟩) := by
  pointwise [k0_pay39]
theorem pay58_apply (bd : FVec Ideal S256x256 .bf16) (Z : FVec Ideal S1024x3200 .f32) (g : Vec Ideal S1x256 .f32) (r : Fin 1024) (j : Fin 128) :
    k0_pay58 bd Z g (ix2 r j) = k0_pay57 bd Z g (ix2 r ⟨j.val, by omega⟩) := by
  pointwise [k0_pay58]
theorem pay60_apply (bd : FVec Ideal S256x256 .bf16) (Z : FVec Ideal S1024x3200 .f32) (g : Vec Ideal S1x256 .f32) (r : Fin 1024) (j : Fin 128) :
    k0_pay60 bd Z g (ix2 r j) = k0_pay57 bd Z g (ix2 r ⟨128 + j.val, by omega⟩) := by
  pointwise [k0_pay60]

theorem kn_ok (A : Agree m c V') (t : Fin cfg0.N) (r : Fin 1024) (s : Fin 2048) (hs : s.val = 1024 * (t.val % 2) + r.val) (h : Fin 4) (d : Fin 64)
    (z : Fin 64 → Fin 3096) (hz : ∀ x, (z x).val = if h.val < 2 then 2560 + (64 * h.val + x.val) else 2816 + (64 * (h.val - 2) + x.val)) :
    k0_pay57 (k0_pay5 (iblk m c 5 t)) (zT m c t) (iblk m c 4 t) (ix2 r (lane h d))
      = unit64 (fun x => zr V' (bOf t) s (z x)) d * V' (Proc.devRef .tc Cert.ReferenceIdeal.main_arg5) (ix1 d) := by
  have hl := kgain A t h d
  let f : Fin 256 → EReal := fun x => if hx : x.val < 128 then zT m c t (ix2 r ⟨768 + x.val, by omega⟩) else zT m c t (ix2 r ⟨1024 + (x.val - 128), by omega⟩)
  rw [pay57_apply _ _ _ r (lane h d) f (fun x => dif_pos x.isLt) (fun x => (dif_neg (by simp)).trans
    (congrArg (fun y => zT m c t (ix2 r y)) (Fin.ext (by simp)))), over_mean t h d f (fun x => zr V' (bOf t) s (z x)) fun e => ?_, hl]
  have hze := hz e
  by_cases h2 : h.val < 2
  · rw [if_pos h2] at hze
    exact (dif_pos (by simp only [lane]; omega)).trans (z_a A t r _ s hs _ (by simp only [lane]; omega) (by simp only [lane]; omega))
  · rw [if_neg h2] at hze
    exact (dif_neg (by simp only [lane]; omega)).trans (z_a A t r _ s hs _ (by simp only [lane]; omega) (by simp only [lane]; omega))

/-! ## The convolution -/

theorem row_apply {A B : ℕ} (T : Vec Ideal ⟨2, ![A, B]⟩ .f32) (k : ℕ) (hk : k < A) (j : Fin B) : rowOf T k hk (ix2 0 j) = T (ix2 ⟨k, hk⟩ j) := by
  refine congrArg T (funext fun a => Fin.ext ?_)
  fin_cases a
  · show k + 1 * 0 = k
    omega
  · show 0 + 1 * j.val = j.val
    omega

theorem u_ok (A : Agree m c V') (t : Fin cfg0.N) (r : Fin 1024) (s : Fin 2048) (hs : s.val = 1024 * (t.val % 2) + r.val) (l : Fin 256) :
    k0_pay194 (zT m c t) (ix2 r l) = zr V' (bOf t) s ⟨1280 + l.val, by omega⟩ * zr V' (bOf t) s ⟨1536 + l.val, by omega⟩ := by
  have e : k0_pay194 (zT m c t) (ix2 r l) = zT m c t (ix2 r ⟨2688 + l.val, by omega⟩) * zT m c t (ix2 r ⟨2944 + l.val, by omega⟩) := by
    pointwise [k0_pay194]
  rw [e, z_c A t r _ s hs ⟨1280 + l.val, by omega⟩ (by simp only; omega) (by simp only; omega),
    z_c A t r _ s hs ⟨1536 + l.val, by omega⟩ (by simp only; omega) (by simp only; omega)]

/-- The two rows before the tile's first, as the carried rows hold them. -/
def Carries (V' : Valuation Cert.ReferenceIdeal.τ Cert.ReferenceIdeal.sig (Elt Ideal)) (t : Fin cfg0.N) (ca : Vec Ideal S8x256 .f32) : Prop :=
  ∀ l : Fin 256, ca (ix2 (7 : Fin 8) l) = upad V' (bOf t) (1024 * (t.val % 2) + 1) (by omega) l
    ∧ ca (ix2 (6 : Fin 8) l) = upad V' (bOf t) (1024 * (t.val % 2)) (by omega) l

theorem carries_even (t : Fin cfg0.N) (h0 : t.val % 2 = 0) : Carries V' t (k0_pay4 (F := Ideal)) := fun l => by
  have e : ∀ i : Fin 8, k0_pay4 (F := Ideal) (ix2 i l) = 0 := fun i => by pointwise [k0_pay4]
  rw [e, e]
  unfold upad
  rw [dif_neg (by omega), dif_neg (by omega)]
  exact ⟨rfl, rfl⟩

theorem pay2_apply (X : FVec Ideal S1024x256 .f32) (i : Fin 8) (l : Fin 256) : k0_pay2 X (ix2 i l) = X (ix2 ⟨1016 + i.val, by omega⟩ l) := by
  pointwise [k0_pay2]

theorem carries_odd (A : Agree m c V') (t : Fin cfg0.N) (h0 : ¬ t.val % 2 = 0) :
    Carries V' t (outsAt0 m c (t.val - 1) (Nat.lt_of_le_of_lt (Nat.sub_le _ _) t.isLt)).2.2.2.2.2.2.2 := fun l => by
  have ht : t.val < 64 := t.isLt
  let t' : Fin cfg0.N := ⟨t.val - 1, Nat.lt_of_le_of_lt (Nat.sub_le _ _) t.isLt⟩
  have h1 : t'.val % 2 = 0 := by change (t.val - 1) % 2 = 0; omega
  have hb : bOf t' = bOf t := Fin.ext (by change (t.val - 1) / 2 = t.val / 2; omega)
  have hc : (outsAt0 m c (t.val - 1) (Nat.lt_of_le_of_lt (Nat.sub_le _ _) t.isLt)).2.2.2.2.2.2.2 = k0_pay2 (k0_pay194 (zT m c t')) := carry m c t'
  rw [hc, pay2_apply, pay2_apply]
  unfold upad
  rw [dif_pos (by omega), dif_pos (by omega), ← hb]
  exact ⟨u_ok A t' _ _ (by simp only [h1]; omega) l, u_ok A t' _ _ (by simp only [h1]; omega) l⟩

theorem ge1 : ∀ r : Fin 1024, IntOp.cmpi CmpIPredicate.sge (BitVec.ofNat 32 r.val) 1#32 = if 1 ≤ r.val then 1#1 else 0#1 := by decide +kernel
theorem ge2 : ∀ r : Fin 1024, IntOp.cmpi CmpIPredicate.sge (BitVec.ofNat 32 r.val) 2#32 = if 2 ≤ r.val then 1#1 else 0#1 := by decide +kernel
theorem eq1 : ∀ r : Fin 1024, IntOp.cmpi CmpIPredicate.eq (BitVec.ofNat 32 r.val) 1#32 = if r.val = 1 then 1#1 else 0#1 := by decide +kernel

theorem u1_ok (A : Agree m c V') (t : Fin cfg0.N) (ca : Vec Ideal S8x256 .f32) (hca : Carries V' t ca) (r : Fin 1024) (l : Fin 256) :
    k0_pay195 (zT m c t) (rowOf ca 7 (by omega)) (ix2 r l) = upad V' (bOf t) (1 + (1024 * (t.val % 2) + r.val)) (by omega) l := by
  pointwise [k0_pay195]
  rw [ge1]
  by_cases hr : 1 ≤ r.val
  · rw [if_pos hr]
    unfold upad
    rw [dif_pos (by omega)]
    exact u_ok A t _ _ (by simp only; omega) l
  · rw [if_neg hr]
    have e : r.val = 0 := by omega
    refine (row_apply ca 7 (by omega) l).trans ((hca l).1.trans ?_)
    simp only [e, Nat.add_zero, Nat.add_comm 1]

theorem u2_ok (A : Agree m c V') (t : Fin cfg0.N) (ca : Vec Ideal S8x256 .f32) (hca : Carries V' t ca) (w : Vec Ideal S1x256 .f32) (r : Fin 1024) (l : Fin 256) :
    k0_pay197 (zT m c t) (rowOf ca 7 (by omega)) (rowOf ca 6 (by omega)) w (ix2 r l)
      = w (ix2 0 l) * upad V' (bOf t) (1024 * (t.val % 2) + r.val) (by omega) l := by
  pointwise [k0_pay197]
  rw [ge2, eq1]
  refine congrArg (w (ix2 0 l) * ·) ?_
  by_cases hr : 2 ≤ r.val
  · rw [if_pos hr]
    unfold upad
    rw [dif_pos (by omega)]
    exact u_ok A t _ _ (by simp only; omega) l
  · rw [if_neg hr]
    by_cases h1 : r.val = 1
    · rw [if_pos h1]
      refine (row_apply ca 7 (by omega) l).trans ((hca l).1.trans ?_)
      simp only [h1]
    · rw [if_neg h1]
      have e : r.val = 0 := by omega
      refine (row_apply ca 6 (by omega) l).trans ((hca l).2.trans ?_)
      simp only [e, Nat.add_zero]

theorem conv_ok (A : Agree m c V') (t : Fin cfg0.N) (ca : Vec Ideal S8x256 .f32) (hca : Carries V' t ca) (r : Fin 1024) (l : Fin 256) :
    convT m c t ca (ix2 r l) = zr V' (bOf t) ⟨1024 * (t.val % 2) + r.val, by omega⟩ ⟨1024 + l.val, by omega⟩
      * (upad V' (bOf t) (1024 * (t.val % 2) + r.val) (by omega) l * V' (Proc.devRef .tc Cert.ReferenceIdeal.main_arg3) (ix2 (0 : Fin 3) l)
        + upad V' (bOf t) (1 + (1024 * (t.val % 2) + r.val)) (by omega) l * V' (Proc.devRef .tc Cert.ReferenceIdeal.main_arg3) (ix2 (1 : Fin 3) l)
        + upad V' (bOf t) (2 + (1024 * (t.val % 2) + r.val)) (by omega) l * V' (Proc.devRef .tc Cert.ReferenceIdeal.main_arg3) (ix2 (2 : Fin 3) l)) := by
  have e : ∀ (u u1 b x : FVec Ideal S1024x256 .f32) (w1 w2 : Vec Ideal S1x256 .f32),
      k0_pay1 u u1 b x w1 w2 (ix2 r l) = b (ix2 r l) * (x (ix2 r l) + w1 (ix2 0 l) * u1 (ix2 r l) + w2 (ix2 0 l) * u (ix2 r l)) := fun u u1 b x w1 w2 => by
    pointwise [k0_pay1]
  have e2 : k0_pay196 (zT m c t) (ix2 r l) = zT m c t (ix2 r ⟨2432 + l.val, by omega⟩) := by
    pointwise [k0_pay196]
  have hw : ∀ (i : ℕ) (hi : i < 3), rowOf (iblk m c 13 t) i hi (ix2 0 l) = V' (Proc.devRef .tc Cert.ReferenceIdeal.main_arg3) (ix2 (⟨i, hi⟩ : Fin 3) l) := fun i hi =>
    (row_apply (iblk m c 13 t) i hi l).trans ((blk13 m c t _ l).trans ((congrFun (V_main_arg3 m c) _).trans (A.cw _ l)))
  rw [convT, e, u1_ok A t ca hca, u2_ok A t ca hca, e2, z_c A t r _ ⟨1024 * (t.val % 2) + r.val, by omega⟩ rfl ⟨1024 + l.val, by omega⟩ (by simp only; omega) (by simp only; omega),
    hw, hw, hw, u_ok A t r ⟨1024 * (t.val % 2) + r.val, by omega⟩ rfl l, mul_comm (upad V' _ _ _ l) _, mul_comm (upad V' _ _ _ l) _, mul_comm (upad V' _ _ _ l) _]
  have e3 : upad V' (bOf t) (2 + (1024 * (t.val % 2) + r.val)) (by omega) l
      = zr V' (bOf t) ⟨1024 * (t.val % 2) + r.val, by omega⟩ ⟨1280 + l.val, by omega⟩ * zr V' (bOf t) ⟨1024 * (t.val % 2) + r.val, by omega⟩ ⟨1536 + l.val, by omega⟩ := by
    unfold upad
    rw [dif_pos (by omega)]
    simp only [show 2 + (1024 * (t.val % 2) + r.val) - 2 = 1024 * (t.val % 2) + r.val by omega]
  rw [e3]
  rfl

end Cert.KernelIdeal.RefValue

end
-- ==== Proof.Ends.lean ====
/- The first call's six result arrays are the reference's. -/
module

public import proofs.«01_k».proof.Proof.Rows

@[expose] public section

set_option maxRecDepth 16384
noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.ReferenceIdeal.RefValue (zr unit64 qnr upad rout)

variable {m : (ℓ : Loc nD τ sig) → Buf (Elt Ideal) ℓ} {c : Dev nD} {V' : Valuation Cert.ReferenceIdeal.τ Cert.ReferenceIdeal.sig (Elt Ideal)}

/-- The position in its sequence of a tile's row. -/
abbrev sOf (t : Fin cfg0.N) (r : Fin 1024) : Fin 2048 := ⟨1024 * (t.val % 2) + r.val, by omega⟩

theorem row_lt (t : Fin cfg0.N) (r : Fin 1024) : (bOf t).val * 2048 + (sOf t r).val < 65536 := by
  have ht : t.val < 64 := t.isLt
  show t.val / 2 * 2048 + (1024 * (t.val % 2) + r.val) < 65536
  omega

theorem row_eq (t : Fin cfg0.N) (r : Fin 1024) : (⟨(bOf t).val * 2048 + (sOf t r).val, row_lt t r⟩ : Fin 65536) = ⟨t.val * 1024 + r.val, by
    have ht : t.val < 64 := t.isLt
    omega⟩ := Fin.ext (by
  show t.val / 2 * 2048 + (1024 * (t.val % 2) + r.val) = t.val * 1024 + r.val
  omega)

theorem row4_lt (t : Fin cfg0.N) (i : Fin 64) : (bOf t).val * 128 + (64 * (t.val % 2) + i.val) < 4096 := by
  have ht : t.val < 64 := t.isLt
  show t.val / 2 * 128 + (64 * (t.val % 2) + i.val) < 4096
  omega

theorem row4_eq (t : Fin cfg0.N) (i : Fin 64) : (⟨(bOf t).val * 128 + (64 * (t.val % 2) + i.val), row4_lt t i⟩ : Fin 4096) = ⟨t.val * 64 + i.val, by
    have ht : t.val < 64 := t.isLt
    omega⟩ := Fin.ext (by
  show t.val / 2 * 128 + (64 * (t.val % 2) + i.val) = t.val * 64 + i.val
  omega)

theorem gate_ok (A : Agree m c V') (t : Fin cfg0.N) (r : Fin 1024) (j : Fin 128) :
    k0_pay62 (zT m c t) (ix2 r j) = rout V' Cert.ReferenceIdeal.main_v359 (ix2 (⟨(bOf t).val * 2048 + (sOf t r).val, row_lt t r⟩ : Fin 65536) j) := by
  rw [pay62_apply]
  by_cases hj : j.val < 24
  · exact (z_b A t r ⟨j.val, hj⟩ (sOf t r) rfl).trans (Cert.ReferenceIdeal.RefValue.out_g V' (bOf t) (sOf t r) ⟨j.val, hj⟩).symm
  · obtain ⟨k, rfl⟩ : ∃ k : Fin 104, j = ⟨24 + k.val, by clear hj; omega⟩ := ⟨⟨j.val - 24, by omega⟩, Fin.ext (by simp only; omega)⟩
    refine Eq.trans ?_ (Cert.ReferenceIdeal.RefValue.out_gz V' (bOf t) (sOf t r) k).symm
    refine Eq.trans (congrArg (fun x => zT m c t (ix2 r x)) (Fin.ext ?_)) (z_z A t r k (sOf t r) rfl)
    show 1280 + (24 + k.val) = 1304 + k.val
    omega

theorem final19 (A : Agree m c V') : (dats m 0 c).arrAt 19 (cfgs 0).N = rout V' Cert.ReferenceIdeal.main_v359 := by
  refine (dats m 0 c).arrAt_eq_of_covers 19 _ (by decide +kernel) fun t _ y => ?_
  blk_simp
  rw [after0_19]
  have e := idx t
  have ht : t.val < 64 := t.isLt
  obtain ⟨r, j, rfl⟩ : ∃ (r : Fin 1024) (j : Fin 128), y = ix2 r j := ⟨y 0, y 1, eq_ix2 y⟩
  have he : ((View.whole main_v102_5).slice (win0_19.rect t)).emb (ix2 r j) = ix2 (⟨(bOf t).val * 2048 + (sOf t r).val, row_lt t r⟩ : Fin 65536) j := by
    rw [row_eq]
    blk_ext [e]
  refine Eq.trans ?_ (congrArg _ he).symm
  rw [out19]
  exact gate_ok A t r j

theorem final16 (A : Agree m c V') : (dats m 0 c).arrAt 16 (cfgs 0).N = rout V' Cert.ReferenceIdeal.main_v353 := by
  refine (dats m 0 c).arrAt_eq_of_covers 16 _ (by decide +kernel) fun t _ y => ?_
  blk_simp
  rw [after0_16]
  have e := idx t
  have ht : t.val < 64 := t.isLt
  obtain ⟨i, j, rfl⟩ : ∃ (i : Fin 64) (j : Fin 2048), y = ix2 i j := ⟨y 0, y 1, eq_ix2 y⟩
  have he : ((View.whole main_v102_2).slice (win0_16.rect t)).emb (ix2 i j) = ix2 (⟨(bOf t).val * 128 + (64 * (t.val % 2) + i.val), row4_lt t i⟩ : Fin 4096) j := by
    rw [row4_eq]
    blk_ext [e]
  refine Eq.trans ?_ (congrArg _ he).symm
  rw [out16]
  obtain ⟨k, l, rfl⟩ : ∃ (k : Fin 16) (l : Fin 128), j = ⟨k.val * 128 + l.val, by omega⟩ := ⟨⟨j.val / 128, by omega⟩, ⟨j.val % 128, by omega⟩, Fin.ext (by simp only; omega)⟩
  refine (colL_apply _ k.val i l _ rfl (by show k.val * 128 + l.val = _; omega) 16 (by decide) k.isLt).trans ?_
  have hx : sixteenth (k0_pay22 (zT m c t)) k.val (ix2 i l) = k0_pay22 (zT m c t) (ix2 (⟨16 * i.val + k.val, by omega⟩ : Fin 1024) l) := by
    refine congrArg (k0_pay22 (zT m c t)) (funext fun a => Fin.ext ?_)
    fin_cases a
    · show k.val % 16 + 16 * i.val = 16 * i.val + k.val
      omega
    · show 0 + 1 * l.val = l.val
      omega
  rw [hx, pay22_apply]
  exact (z_a A t _ _ (⟨(64 * (t.val % 2) + i.val) * 16 + k.val, by omega⟩ : Fin 2048) (by simp only; omega) ⟨2304 + l.val, by omega⟩ (by simp only; omega) (by simp only; omega)).trans
    (Cert.ReferenceIdeal.RefValue.out_kc V' (bOf t) ⟨64 * (t.val % 2) + i.val, by omega⟩ k l).symm

theorem final17 (A : Agree m c V') : (dats m 0 c).arrAt 17 (cfgs 0).N = rout V' Cert.ReferenceIdeal.main_v355 := by
  refine (dats m 0 c).arrAt_eq_of_covers 17 _ (by decide +kernel) fun t _ y => ?_
  blk_simp
  rw [after0_17]
  have e := idx t
  have ht : t.val < 64 := t.isLt
  obtain ⟨i, j, rfl⟩ : ∃ (i : Fin 64) (j : Fin 2048), y = ix2 i j := ⟨y 0, y 1, eq_ix2 y⟩
  have he : ((View.whole main_v102_3).slice (win0_17.rect t)).emb (ix2 i j) = ix2 (⟨(bOf t).val * 128 + (64 * (t.val % 2) + i.val), row4_lt t i⟩ : Fin 4096) j := by
    rw [row4_eq]
    blk_ext [e]
  refine Eq.trans ?_ (congrArg _ he).symm
  rw [out17]
  obtain ⟨k, l, rfl⟩ : ∃ (k : Fin 16) (l : Fin 128), j = ⟨k.val * 128 + l.val, by omega⟩ := ⟨⟨j.val / 128, by omega⟩, ⟨j.val % 128, by omega⟩, Fin.ext (by simp only; omega)⟩
  refine (colL_apply _ k.val i l _ rfl (by show k.val * 128 + l.val = _; omega) 16 (by decide) k.isLt).trans ?_
  have hx : sixteenth (k0_pay39 (zT m c t)) k.val (ix2 i l) = k0_pay39 (zT m c t) (ix2 (⟨16 * i.val + k.val, by omega⟩ : Fin 1024) l) := by
    refine congrArg (k0_pay39 (zT m c t)) (funext fun a => Fin.ext ?_)
    fin_cases a
    · show k.val % 16 + 16 * i.val = 16 * i.val + k.val
      omega
    · show 0 + 1 * l.val = l.val
      omega
  rw [hx, pay39_apply]
  exact (z_a A t _ _ (⟨(64 * (t.val % 2) + i.val) * 16 + k.val, by omega⟩ : Fin 2048) (by simp only; omega) ⟨2432 + l.val, by omega⟩ (by simp only; omega) (by simp only; omega)).trans
    (Cert.ReferenceIdeal.RefValue.out_vc V' (bOf t) ⟨64 * (t.val % 2) + i.val, by omega⟩ k l).symm

/-- A tile of the first result: the retention's heads beside the convolution. -/
theorem t14_ok (A : Agree m c V') (t : Fin cfg0.N) (ca : Vec Ideal S8x256 .f32) (hca : Carries V' t ca)
    (st : Vec Ideal S256x256 .f32) (hst : Holds V' (bOf t) (8 * (t.val % 2)) st) (r : Fin 1024) (j : Fin 512) :
    tiles14 (convT m c t ca) (nT m c t st) (ix2 r j)
      = rout V' Cert.ReferenceIdeal.main_v349 (ix2 (⟨(bOf t).val * 2048 + (sOf t r).val, row_lt t r⟩ : Fin 65536) j) := by
  by_cases hj : j.val < 256
  · obtain ⟨h, d, rfl⟩ : ∃ (h : Fin 4) (d : Fin 64), j = ⟨h.val * 64 + d.val, by clear hj; omega⟩ := ⟨⟨j.val / 64, by omega⟩, ⟨j.val % 64, by omega⟩, Fin.ext (by simp only; omega)⟩
    obtain ⟨n, i, rfl⟩ : ∃ (n : Fin 8) (i : Fin 128), r = ⟨128 * n.val + i.val, by omega⟩ := ⟨⟨r.val / 128, by omega⟩, ⟨r.val % 128, by omega⟩, Fin.ext (by simp only; omega)⟩
    have h1 : (⟨h.val * 64 + d.val, by omega⟩ : Fin 512) = ⟨(lane h d).val, by simp only [lane]; omega⟩ := Fin.ext (by simp only [lane]; omega)
    have h2 : (⟨(bOf t).val * 2048 + (sOf t ⟨128 * n.val + i.val, by omega⟩).val, row_lt t _⟩ : Fin 65536)
        = ⟨(bOf t).val * 2048 + ((8 * (t.val % 2) + n.val) * 128 + i.val), by have := (bOf t).isLt; omega⟩ := Fin.ext (by
      show (bOf t).val * 2048 + (1024 * (t.val % 2) + (128 * n.val + i.val)) = (bOf t).val * 2048 + ((8 * (t.val % 2) + n.val) * 128 + i.val)
      omega)
    refine Eq.trans ?_ ((congrArg (fun x => rout V' Cert.ReferenceIdeal.main_v349 (ix2 x (⟨h.val * 64 + d.val, by omega⟩ : Fin 512))) h2).trans
      (Cert.ReferenceIdeal.RefValue.out_ret V' (bOf t) ⟨8 * (t.val % 2) + n.val, by omega⟩ i h d)).symm
    refine (congrArg (fun x => tiles14 (convT m c t ca) (nT m c t st) (ix2 (⟨128 * n.val + i.val, by omega⟩ : Fin 1024) x)) h1).trans ?_
    exact (tiles14_left _ _ n i (lane h d)).trans (n_ok A t st hst n ⟨8 * (t.val % 2) + n.val, by omega⟩ rfl i h d)
  · obtain ⟨l, rfl⟩ : ∃ l : Fin 256, j = ⟨256 + l.val, by clear hj; omega⟩ := ⟨⟨j.val - 256, by omega⟩, Fin.ext (by simp only; omega)⟩
    exact (tiles14_right _ _ r l).trans ((conv_ok A t ca hca r l).trans (Cert.ReferenceIdeal.RefValue.out_conv V' (bOf t) (sOf t r) l).symm)

theorem final14 (A : Agree m c V') : (dats m 0 c).arrAt 14 (cfgs 0).N = rout V' Cert.ReferenceIdeal.main_v349 := by
  refine (dats m 0 c).arrAt_eq_of_covers 14 _ (by decide +kernel) fun t _ y => ?_
  blk_simp
  rw [after0_14]
  have e := idx t
  have ht : t.val < 64 := t.isLt
  obtain ⟨r, j, rfl⟩ : ∃ (r : Fin 1024) (j : Fin 512), y = ix2 r j := ⟨y 0, y 1, eq_ix2 y⟩
  have he : ((View.whole main_v102_0).slice (win0_14.rect t)).emb (ix2 r j) = ix2 (⟨(bOf t).val * 2048 + (sOf t r).val, row_lt t r⟩ : Fin 65536) j := by
    rw [row_eq]
    blk_ext [e]
  refine Eq.trans ?_ (congrArg _ he).symm
  by_cases hp : t.val % 2 = 0
  · rw [out14_A m c t hp]
    exact t14_ok A t _ (carries_even t hp) _ (start_even t hp) r j
  · rw [out14_B m c t hp]
    exact t14_ok A t _ (carries_odd A t hp) _ (start_odd A t hp) r j

theorem q_ends (A : Agree m c V') (t : Fin cfg0.N) (r : Fin 1024) (h : Fin 4) (d : Fin 64) :
    qT m c t h.val (ix2 r ⟨d.val, by omega⟩) = qnr V' (bOf t) (sOf t r) ⟨h.val, by omega⟩ d ∧ qT m c t h.val (ix2 r ⟨64 + d.val, by omega⟩) = 0
    ∧ qT m c t (4 + h.val) (ix2 r ⟨64 + d.val, by omega⟩) = qnr V' (bOf t) (sOf t r) ⟨4 + h.val, by omega⟩ d
    ∧ qT m c t (4 + h.val) (ix2 r ⟨d.val, by omega⟩) = 0 := by
  have H1 := head_lo (k0_pay10 (k0_pay5 (iblk m c 5 t)) (k0_pay7 (iblk m c 0 t) (iblk m c 1 t) (iblk m c 2 t)) (iblk m c 3 t)) r d
  have H0 := head_first (k0_pay5 (iblk m c 5 t)) (k0_pay7 (iblk m c 0 t) (iblk m c 1 t) (iblk m c 2 t)) (iblk m c 3 t) r d
  have H2 := head_hi (k0_pay15 (k0_pay5 (iblk m c 5 t)) (k0_pay7 (iblk m c 0 t) (iblk m c 1 t) (iblk m c 2 t)) (k0_pay8 (iblk m c 3 t))) r d
  have L := fun h => q_lo A t r (sOf t r) rfl h d
  have R := fun h => q_hi A t r (sOf t r) rfl h d
  fin_cases h
  · exact ⟨H0.1.trans (L 0), H0.2.1, H0.2.2.1.trans (R 0), H0.2.2.2⟩
  · exact ⟨H1.1.trans (L 1), H1.2.1, H2.1.trans (R 1), H2.2.1⟩
  · exact ⟨H1.2.2.1.trans (L 2), H1.2.2.2.1, H2.2.2.1.trans (R 2), H2.2.2.2.1⟩
  · exact ⟨H1.2.2.2.2.1.trans (L 3), H1.2.2.2.2.2, H2.2.2.2.2.1.trans (R 3), H2.2.2.2.2.2⟩

theorem final15 (A : Agree m c V') : (dats m 0 c).arrAt 15 (cfgs 0).N = rout V' Cert.ReferenceIdeal.main_v351 := by
  refine (dats m 0 c).arrAt_eq_of_covers 15 _ (by decide +kernel) fun t _ y => ?_
  blk_simp
  rw [after0_15]
  have e := idx t
  have ht : t.val < 64 := t.isLt
  obtain ⟨r, j, rfl⟩ : ∃ (r : Fin 1024) (j : Fin 1024), y = ix2 r j := ⟨y 0, y 1, eq_ix2 y⟩
  have he : ((View.whole main_v102_1).slice (win0_15.rect t)).emb (ix2 r j) = ix2 (⟨(bOf t).val * 2048 + (sOf t r).val, row_lt t r⟩ : Fin 65536) j := by
    rw [row_eq]
    blk_ext [e]
  refine Eq.trans ?_ (congrArg _ he).symm
  rw [out15]
  have hd : (j.val % 128 < 64 ∨ 64 ≤ j.val % 128) ∧ (j.val < 512 ∨ 512 ≤ j.val) := ⟨by omega, by omega⟩
  rcases hd with ⟨hd | hd, hk | hk⟩
  · obtain ⟨h, d, rfl⟩ : ∃ (h : Fin 4) (d : Fin 64), j = ⟨h.val * 128 + d.val, by clear hd hk he; omega⟩ := ⟨⟨j.val / 128, by omega⟩, ⟨j.val % 128, by omega⟩, Fin.ext (by simp only; omega)⟩
    exact (colL_apply _ h.val r ⟨d.val, by omega⟩ _ rfl (by show h.val * 128 + d.val = 128 * h.val + d.val; omega) 8 (by decide) (by omega)).trans
      ((q_ends A t r h d).1.trans (Cert.ReferenceIdeal.RefValue.out_q0 V' (bOf t) (sOf t r) h d).symm)
  · obtain ⟨h, d, rfl⟩ : ∃ (h : Fin 4) (d : Fin 64), j = ⟨(4 + h.val) * 128 + d.val, by clear hd hk he; omega⟩ := ⟨⟨j.val / 128 - 4, by omega⟩, ⟨j.val % 128, by omega⟩, Fin.ext (by simp only; omega)⟩
    exact (colL_apply _ (4 + h.val) r ⟨d.val, by omega⟩ _ rfl (by show (4 + h.val) * 128 + d.val = 128 * (4 + h.val) + d.val; omega) 8 (by decide) (by omega)).trans
      ((q_ends A t r h d).2.2.2.trans (Cert.ReferenceIdeal.RefValue.out_q1z V' (bOf t) (sOf t r) h d).symm)
  · obtain ⟨h, d, rfl⟩ : ∃ (h : Fin 4) (d : Fin 64), j = ⟨h.val * 128 + (64 + d.val), by clear hd hk he; omega⟩ := ⟨⟨j.val / 128, by omega⟩, ⟨j.val % 128 - 64, by omega⟩, Fin.ext (by simp only; omega)⟩
    exact (colL_apply _ h.val r ⟨64 + d.val, by omega⟩ _ rfl (by show h.val * 128 + (64 + d.val) = 128 * h.val + (64 + d.val); omega) 8 (by decide) (by omega)).trans
      ((q_ends A t r h d).2.1.trans (Cert.ReferenceIdeal.RefValue.out_q0z V' (bOf t) (sOf t r) h d).symm)
  · obtain ⟨h, d, rfl⟩ : ∃ (h : Fin 4) (d : Fin 64), j = ⟨(4 + h.val) * 128 + (64 + d.val), by clear hd hk he; omega⟩ := ⟨⟨j.val / 128 - 4, by omega⟩, ⟨j.val % 128 - 64, by omega⟩, Fin.ext (by simp only; omega)⟩
    exact (colL_apply _ (4 + h.val) r ⟨64 + d.val, by omega⟩ _ rfl (by show (4 + h.val) * 128 + (64 + d.val) = 128 * (4 + h.val) + (64 + d.val); omega) 8 (by decide) (by omega)).trans
      ((q_ends A t r h d).2.2.1.trans (Cert.ReferenceIdeal.RefValue.out_q1 V' (bOf t) (sOf t r) h d).symm)

theorem kn_lo (A : Agree m c V') (t : Fin cfg0.N) (r : Fin 1024) (g : Fin 2) (d : Fin 64) :
    kvT m c t 0 (ix2 r ⟨g.val * 64 + d.val, by omega⟩)
      = unit64 (fun x => zr V' (bOf t) (sOf t r) ⟨2560 + (g.val * 64 + x.val), by omega⟩) d * V' (Proc.devRef .tc Cert.ReferenceIdeal.main_arg5) (ix1 d) := by
  refine (pay58_apply _ _ _ r _).trans (Eq.trans (congrArg (fun x => k0_pay57 _ _ _ (ix2 r x)) (Fin.ext ?_))
    (kn_ok A t r (sOf t r) rfl ⟨g.val, by omega⟩ d (fun x => ⟨2560 + (g.val * 64 + x.val), by omega⟩) fun x => ?_))
  · simp only [lane]
    omega
  · rw [if_pos g.isLt]
    simp only
    omega

theorem kn_hi (A : Agree m c V') (t : Fin cfg0.N) (r : Fin 1024) (g : Fin 2) (d : Fin 64) :
    kvT m c t 2 (ix2 r ⟨g.val * 64 + d.val, by omega⟩)
      = unit64 (fun x => zr V' (bOf t) (sOf t r) ⟨2816 + (g.val * 64 + x.val), by omega⟩) d * V' (Proc.devRef .tc Cert.ReferenceIdeal.main_arg5) (ix1 d) := by
  refine (pay60_apply _ _ _ r _).trans (Eq.trans (congrArg (fun x => k0_pay57 _ _ _ (ix2 r x)) (Fin.ext ?_))
    (kn_ok A t r (sOf t r) rfl ⟨2 + g.val, by omega⟩ d (fun x => ⟨2816 + (g.val * 64 + x.val), by omega⟩) fun x => ?_))
  · simp only [lane]
    omega
  · rw [if_neg (by simp only; omega)]
    simp only
    omega

theorem final18 (A : Agree m c V') : (dats m 0 c).arrAt 18 (cfgs 0).N = rout V' Cert.ReferenceIdeal.main_v357 := by
  refine (dats m 0 c).arrAt_eq_of_covers 18 _ (by decide +kernel) fun t _ y => ?_
  blk_simp
  rw [after0_18]
  have e := idx t
  have ht : t.val < 64 := t.isLt
  obtain ⟨r, j, rfl⟩ : ∃ (r : Fin 1024) (j : Fin 512), y = ix2 r j := ⟨y 0, y 1, eq_ix2 y⟩
  have he : ((View.whole main_v102_4).slice (win0_18.rect t)).emb (ix2 r j) = ix2 (⟨(bOf t).val * 2048 + (sOf t r).val, row_lt t r⟩ : Fin 65536) j := by
    rw [row_eq]
    blk_ext [e]
  refine Eq.trans ?_ (congrArg _ he).symm
  rw [out18]
  have hd : j.val < 128 ∨ (128 ≤ j.val ∧ j.val < 256) ∨ (256 ≤ j.val ∧ j.val < 384) ∨ 384 ≤ j.val := by omega
  rcases hd with hd | hd | hd | hd
  · obtain ⟨g, d, rfl⟩ : ∃ (g : Fin 2) (d : Fin 64), j = ⟨g.val * 64 + d.val, by clear hd he; omega⟩ := ⟨⟨j.val / 64, by omega⟩, ⟨j.val % 64, by omega⟩, Fin.ext (by simp only; omega)⟩
    exact (colL_apply _ 0 r ⟨g.val * 64 + d.val, by omega⟩ _ rfl (by show g.val * 64 + d.val = 128 * 0 + (g.val * 64 + d.val); omega) 4 (by decide) (by omega)).trans
      ((kn_lo A t r g d).trans (Cert.ReferenceIdeal.RefValue.out_ks V' (bOf t) (sOf t r) g d).symm)
  · obtain ⟨l, rfl⟩ : ∃ l : Fin 128, j = ⟨128 + l.val, by clear hd he; omega⟩ := ⟨⟨j.val - 128, by omega⟩, Fin.ext (by simp only; omega)⟩
    exact (colL_apply _ 1 r l _ rfl rfl 4 (by decide) (by omega)).trans
      ((pay59_apply _ r l).trans ((z_a A t r _ (sOf t r) rfl ⟨2688 + l.val, by omega⟩ (by simp only; omega) (by simp only; omega)).trans
        (Cert.ReferenceIdeal.RefValue.out_vs V' (bOf t) (sOf t r) l).symm))
  · obtain ⟨g, d, rfl⟩ : ∃ (g : Fin 2) (d : Fin 64), j = ⟨256 + (g.val * 64 + d.val), by clear hd he; omega⟩ := ⟨⟨j.val / 64 - 4, by omega⟩, ⟨j.val % 64, by omega⟩, Fin.ext (by simp only; omega)⟩
    exact (colL_apply _ 2 r ⟨g.val * 64 + d.val, by omega⟩ _ rfl rfl 4 (by decide) (by omega)).trans
      ((kn_hi A t r g d).trans (Cert.ReferenceIdeal.RefValue.out_kw V' (bOf t) (sOf t r) g d).symm)
  · obtain ⟨l, rfl⟩ : ∃ l : Fin 128, j = ⟨384 + l.val, by clear hd he; omega⟩ := ⟨⟨j.val - 384, by omega⟩, Fin.ext (by simp only; omega)⟩
    exact (colL_apply _ 3 r l _ rfl rfl 4 (by decide) (by omega)).trans
      ((pay61_apply _ r l).trans ((z_a A t r _ (sOf t r) rfl ⟨2944 + l.val, by omega⟩ (by simp only; omega) (by simp only; omega)).trans
        (Cert.ReferenceIdeal.RefValue.out_vw V' (bOf t) (sOf t r) l).symm))

end Cert.KernelIdeal.RefValue

end
-- ==== Proof.Claim1.lean ====
/-
The value claim about the input projections, put together from the two runs.
-/
module

public import proofs.«01_k».proof.Proof.Ends
public import proofs.«01_k».proof.Defs
public import proofs.«01_k».proof.Proof.Gen.KernelIdeal
public import proofs.«01_k».proof.Proof.Gen.ReferenceIdeal

@[expose] public section

noncomputable section

namespace Cert.Proof

open Idealize.ShloMosaic Idealize.SL.Sem Idealize.ShloMosaic.StableHlo
open Cert.ReferenceIdeal.RefValue (rout)

/-- From equal arguments the kernel and the reference end with the same six results. -/
theorem algebraic1 : Cert.algebraic_KernelIdeal_ReferenceIdeal := by
  intro m g m' g' _ hag
  have A : ∀ c, Cert.KernelIdeal.RefValue.Agree m c (launchContents m' c) := fun c => by
    obtain ⟨h0, h1, h2, h3, h4, h5⟩ := hag c
    exact ⟨fun _ _ _ => congrFun h0.symm _, fun _ => congrFun h1.symm _, fun _ _ => congrFun h2.symm _,
      fun _ _ => congrFun h3.symm _, fun _ => congrFun h4.symm _, fun _ => congrFun h5.symm _⟩
  refine ⟨fun c => rout (launchContents m' c) Cert.ReferenceIdeal.main_v349, fun c => rout (launchContents m' c) Cert.ReferenceIdeal.main_v351,
    fun c => rout (launchContents m' c) Cert.ReferenceIdeal.main_v353, fun c => rout (launchContents m' c) Cert.ReferenceIdeal.main_v355,
    fun c => rout (launchContents m' c) Cert.ReferenceIdeal.main_v357, fun c => rout (launchContents m' c) Cert.ReferenceIdeal.main_v359, ?_, ?_⟩
  · refine (θ_run Cert.KernelIdeal.defs _ _).mono (fun _ h c => ?_) (Cert.KernelIdeal.Value.run_blocks m g)
    obtain ⟨r0, r1, r2, r3, r4, r5, rest⟩ := h c
    exact ⟨r0.trans (Cert.KernelIdeal.RefValue.final14 (A c)), r1.trans (Cert.KernelIdeal.RefValue.final15 (A c)),
      r2.trans (Cert.KernelIdeal.RefValue.final16 (A c)), r3.trans (Cert.KernelIdeal.RefValue.final17 (A c)),
      r4.trans (Cert.KernelIdeal.RefValue.final18 (A c)), r5.trans (Cert.KernelIdeal.RefValue.final19 (A c)), rest⟩
  · refine (θ_run Cert.ReferenceIdeal.defs _ _).mono (fun _ h c => ?_) (Cert.ReferenceIdeal.Value.run m' g')
    obtain ⟨r0, r1, r2, r3, r4, r5, rest⟩ := h c
    exact ⟨r0.trans (Cert.ReferenceIdeal.Value.val7_main_v349 (launchContents m' c)).symm, r1.trans (Cert.ReferenceIdeal.Value.val7_main_v351 (launchContents m' c)).symm,
      r2.trans (Cert.ReferenceIdeal.Value.val7_main_v353 (launchContents m' c)).symm, r3.trans (Cert.ReferenceIdeal.Value.val7_main_v355 (launchContents m' c)).symm,
      r4.trans (Cert.ReferenceIdeal.Value.val7_main_v357 (launchContents m' c)).symm, r5.trans (Cert.ReferenceIdeal.Value.val7_main_v359 (launchContents m' c)).symm, rest⟩

end Cert.Proof

end
-- ==== Proof.CmpRef.lean ====
/- The third call's reference read at an index. -/
module

public import proofs.«01_k».proof.Proof.Gen.Reference3Ideal.Run
public import proofs.«01_k».proof.Proof.Chunk
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Reference3Ideal.RefValue

open Cert.Reference3Ideal Cert.Reference3Ideal.Gen Cert.Reference3Ideal.Value Idealize.ShloMosaic Idealize.ShloMosaic.TcCoe Idealize.SL.Sem

/-- Lane `d` of group `g` among the 128 lanes of the two groups. -/
abbrev gl (g : Fin 2) (d : Fin 64) : Fin 128 := ⟨g.val * 64 + d.val, by omega⟩

/-- Entry `(p, e)` of a flattened window. -/
abbrev we (p : Fin 32) (e : Fin 64) : Fin 2048 := ⟨p.val * 64 + e.val, by omega⟩

/-- A window's hidden unit before its activation. -/
def pre (x : Fin 32 → Fin 64 → EReal) (pe : Fin 32 → Fin 64 → EReal) (w1 : Fin 2048 → Fin 64 → EReal) (f : Fin 64) : EReal :=
  ∑ p : Fin 32, ∑ e : Fin 64, (x p e + pe p e) * w1 (we p e) f

/-- A unit times its logistic. -/
def act (z : EReal) : EReal := z * Ideal.logistic z

/-- A window's compressed row. -/
def comp (x : Fin 32 → Fin 64 → EReal) (pe : Fin 32 → Fin 64 → EReal) (w1 : Fin 2048 → Fin 64 → EReal) (w2 : Fin 64 → Fin 64 → EReal) (d : Fin 64) : EReal :=
  ∑ f, act (pre x pe w1 f) * w2 f d

/-- A compressed row after its norm. -/
def knorm (y : Fin 64 → EReal) (w : Fin 64 → EReal) (d : Fin 64) : EReal :=
  y d * Ideal.rsqrt (Ideal.div (∑ e, y e * y e) (Ideal.ofBits .f32 0x42800000#32) + Ideal.ofBits .f32 0x358637BD#32) * w d

/-- A sum over a flattened window. -/
theorem sum_win (f : Fin 2048 → EReal) : ∑ q, f q = ∑ p : Fin 32, ∑ e : Fin 64, f (we p e) := by
  rw [← Finset.sum_product', Finset.univ_product_univ]
  refine (Fintype.sum_equiv (finProdFinEquiv (m := 32) (n := 64)) _ _ fun x => ?_).symm
  congr 1
  apply Fin.ext
  simp [finProdFinEquiv, add_comm, mul_comm]

/-- The positions of a window. -/
def pos : IVec S127x32x1 32 :=
  broadcastInDim S127x32x1 ![0, 1] bcast_S127x32_S127x32x1_0_1 (select (cmpi .slt (addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32)))) (broadcastInDim S127x32 ![0, 1] bcast_S1x32_S127x32_0_1 (broadcastInDim S1x32 ![1] bcast_S32_S1x32_1 (iotaInDim S32 32 0)))) (broadcastInDim S127x32 ![] bcast_S_S127x32 (constantI S_ 32 0#32))) (addi (addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32)))) (broadcastInDim S127x32 ![0, 1] bcast_S1x32_S127x32_0_1 (broadcastInDim S1x32 ![1] bcast_S32_S1x32_1 (iotaInDim S32 32 0)))) (broadcastInDim S127x32 ![] bcast_S_S127x32 (constantI S_ 32 2048#32))) (addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32)))) (broadcastInDim S127x32 ![0, 1] bcast_S1x32_S127x32_0_1 (broadcastInDim S1x32 ![1] bcast_S32_S1x32_1 (iotaInDim S32 32 0)))))

theorem pos_apply (n : Fin 127) (p : Fin 32) : (pos (ix3 n p 0)).toInt.toNat = 16 * n.val + p.val := by
  pointwise [pos]
  revert n p
  decide +kernel

/-- The windows of a sequence. -/
def wins (x : FVec Ideal S32x2048x128 .bf16) : FVec Ideal S32x127x32x2x64 .f32 :=
  Host.gather gather_S32x2048x2x64_S127x32x1_S32x127x32x2x64_034_1_n_n_1_2_321264 (shapeCast S32x2048x2x64 (extf .f32 x bitsLt_bf16_f32) shapeCasts_S32x2048x128_S32x2048x2x64) pos

theorem gat (x : S32x2048x2x64.Idx → EReal) (b : Fin 32) (n : Fin 127) (p : Fin 32) (g : Fin 2) (e : Fin 64) :
    Host.gather gather_S32x2048x2x64_S127x32x1_S32x127x32x2x64_034_1_n_n_1_2_321264 x pos (ix5 b n p g e)
      = x (ix4 b ⟨16 * n.val + p.val, by omega⟩ g e) := by
  unfold Host.gather
  congr 1
  funext a
  refine Fin.ext ?_
  change GatherDims.start _ _ _ _ + GatherDims.batchCoord _ _ _ + GatherDims.offCoord _ _ _ = _
  have hs : ∀ a : Fin 4, a ≠ 1 → GatherDims.start gather_S32x2048x2x64_S127x32x1_S32x127x32x2x64_034_1_n_n_1_2_321264 (ix5 b n p g e) pos a = 0 := by
    intro a ha
    unfold GatherDims.start
    exact dif_neg fun h => ha (List.mem_singleton.mp h)
  have hb : ∀ a : Fin 4, GatherDims.batchCoord gather_S32x2048x2x64_S127x32x1_S32x127x32x2x64_034_1_n_n_1_2_321264 (ix5 b n p g e) a = 0 :=
    fun a => GatherDims.batchCoord_eq_zero _ _ _ List.not_mem_nil
  have h4 : a = (0 : Fin 4) ∨ a = (1 : Fin 4) ∨ a = (2 : Fin 4) ∨ a = (3 : Fin 4) := by
    revert a
    decide
  rcases h4 with rfl | rfl | rfl | rfl
  · rw [hs _ (by decide), hb]
    unfold GatherDims.offCoord
    rw [dif_pos (by decide)]
    simp only [Nat.zero_add]
    rfl
  · have h := pos_apply n p
    rw [hb, GatherDims.offCoord_eq_zero _ _ _ (fun h => ((GatherDims.mem_sKept _ _).mp h).1 (List.mem_singleton.mpr rfl))]
    unfold GatherDims.start
    rw [dif_pos (show (1 : Fin 4) ∈ GatherDims.startIndexMap gather_S32x2048x2x64_S127x32x1_S32x127x32x2x64_034_1_n_n_1_2_321264 from List.mem_singleton.mpr rfl)]
    simp only [Nat.add_zero]
    change min (pos _).toInt.toNat 2047 = 16 * n.val + p.val
    refine Eq.trans (congrArg (fun i => min (pos i).toInt.toNat 2047) (?_ : _ = ix3 n p 0)) ?_
    · funext b
      match b with
      | ⟨0, _⟩ => rfl
      | ⟨1, _⟩ => rfl
      | ⟨2, _⟩ => rfl
    · change min (pos (ix3 n p 0)).toInt.toNat 2047 = _
      rw [h]
      omega
  · rw [hs _ (by decide), hb]
    unfold GatherDims.offCoord
    rw [dif_pos (by decide)]
    simp only [Nat.zero_add]
    rfl
  · rw [hs _ (by decide), hb]
    unfold GatherDims.offCoord
    rw [dif_pos (by decide)]
    simp only [Nat.zero_add]
    rfl

theorem wins_apply (x : FVec Ideal S32x2048x128 .bf16) (b : Fin 32) (n : Fin 127) (p : Fin 32) (g : Fin 2) (e : Fin 64) :
    wins x (ix5 b n p g e) = x (ix3 b ⟨16 * n.val + p.val, by omega⟩ (gl g e)) := by
  unfold wins
  rw [gat]
  pointwise

/-- The hidden units of all windows. -/
def hidT (x : FVec Ideal S32x2048x128 .bf16) (pe : FVec Ideal S32x64 .f32) (w1 : FVec Ideal S2048x64 .f32) : FVec Ideal S32x127x2x64 .f32 :=
  Host.dotGeneral dot_S32x127x2x2048_S2048x64_S32x127x2x64_3_0_012_1_n_n none (shapeCast S32x127x2x2048 (transpose S32x127x2x32x64 [0, 1, 3, 2, 4] (addf (wins x) (broadcastInDim S32x127x32x2x64 ![0, 1, 2, 3, 4] bcast_S1x1x32x1x64_S32x127x32x2x64_0_1_2_3_4 (broadcastInDim S1x1x32x1x64 ![2, 4] bcast_S32x64_S1x1x32x1x64_2_4 pe))) transposes_S32x127x32x2x64_S32x127x2x32x64_0_1_3_2_4) shapeCasts_S32x127x2x32x64_S32x127x2x2048) w1

theorem hidT_apply (x : FVec Ideal S32x2048x128 .bf16) (pe : FVec Ideal S32x64 .f32) (w1 : FVec Ideal S2048x64 .f32)
    (b : Fin 32) (n : Fin 127) (g : Fin 2) (f : Fin 64) :
    hidT x pe w1 (ix4 b n g f) = pre (fun p e => x (ix3 b ⟨16 * n.val + p.val, by omega⟩ (gl g e))) (fun p e => pe (ix2 p e)) (fun q f => w1 (ix2 q f)) f := by
  unfold hidT pre
  pointwise
  rw [sum_win]
  refine Finset.sum_congr rfl fun p _ => Finset.sum_congr rfl fun e _ => ?_
  have h1 : (p.val * 64 + e.val) / 64 = p.val := by omega
  have h2 : (p.val * 64 + e.val) % 64 = e.val := by omega
  simp only [h1, h2, wins_apply]

/-- The compressed rows of all windows. -/
def compT (x : FVec Ideal S32x2048x128 .bf16) (pe : FVec Ideal S32x64 .f32) (w1 : FVec Ideal S2048x64 .f32) (w2 : FVec Ideal S64x64 .f32) : FVec Ideal S32x127x2x64 .f32 :=
  Host.dotGeneral dot_S32x127x2x64_S64x64_S32x127x2x64_3_0_012_1_n_n none (mulf (hidT x pe w1) (Host.divf (broadcastInDim S32x127x2x64 ![] bcast_S_S32x127x2x64 (constant S_ .f32 0x3F800000#32)) (addf (broadcastInDim S32x127x2x64 ![] bcast_S_S32x127x2x64 (constant S_ .f32 0x3F800000#32)) (Host.exp (Host.negf (hidT x pe w1)))))) w2

theorem compT_apply (x : FVec Ideal S32x2048x128 .bf16) (pe : FVec Ideal S32x64 .f32) (w1 : FVec Ideal S2048x64 .f32) (w2 : FVec Ideal S64x64 .f32)
    (b : Fin 32) (n : Fin 127) (g : Fin 2) (d : Fin 64) :
    compT x pe w1 w2 (ix4 b n g d) = comp (fun p e => x (ix3 b ⟨16 * n.val + p.val, by omega⟩ (gl g e))) (fun p e => pe (ix2 p e)) (fun q f => w1 (ix2 q f)) (fun f d => w2 (ix2 f d)) d := by
  unfold compT comp
  pointwise
  simp only [hidT_apply]
  rfl

theorem zero_word : FloatOps.sitofp (F := Ideal) FTy.f32 0#32 = (0 : EReal) := by
  change (((0#32).toInt : ℝ) : EReal) = 0
  simp

variable (m : (ℓ : Loc nD τ sig) → Buf (Elt Ideal) ℓ) (c : Dev nD)

/-- The second result at a row: the compressed values, and a row of zeros after the last window. -/
theorem out1_apply (b : Fin 32) (n : Fin 128) (g : Fin 2) (d : Fin 64) : res_out1 m c (ix3 b n (gl g d))
    = if hn : n.val < 127 then comp (fun p e => m (c.tc.loc main_arg1) (ix3 b (⟨16 * n.val + p.val, by omega⟩ : Fin 2048) (gl g e))) (fun p e => m (c.tc.loc main_arg6) (ix2 p e))
        (fun q f => m (c.tc.loc main_arg7) (ix2 q f)) (fun f d => m (c.tc.loc main_arg8) (ix2 f d)) d else 0 := by
  have e : res_out1 m c = truncf (F := Ideal) .bf16 (pad S32x128x128 ![0, 0, 0] ![0, 1, 0] ![0, 0, 0] (shapeCast S32x127x128
    (compT (m (c.tc.loc main_arg1)) (m (c.tc.loc main_arg6)) (m (c.tc.loc main_arg7)) (m (c.tc.loc main_arg8))) shapeCasts_S32x127x2x64_S32x127x128)
    (sitofp .f32 (constantI S_ 32 0#32)) pads_S32x127x128_S32x128x128_000_010_000 h_S_) bitsLt_bf16_f32 := rfl
  rw [e]
  clean_types
  pointwise
  by_cases hn : n.val < 127
  · rw [dif_pos ⟨hn, by omega⟩, dif_pos hn, compT_apply]
  · rw [dif_neg fun h => hn h.1, dif_neg hn]
    exact zero_word

/-- The normalized rows of all windows. -/
def normT (y : FVec Ideal S32x127x2x64 .f32) (w : FVec Ideal S64 .f32) : FVec Ideal S32x127x2x64 .f32 :=
  mulf (mulf y (broadcastInDim S32x127x2x64 ![0, 1, 2, 3] bcast_S32x127x2x1_S32x127x2x64_0_1_2_3 (Host.rsqrt (addf (Host.divf (broadcastInDim S32x127x2x1 ![0, 1, 2] bcast_S32x127x2_S32x127x2x1_0_1_2 (Host.reduceAdd (mulf y y) (constant S_ .f32 0x00000000#32) reducesTo_S32x127x2x64_S32x127x2_d3 h_S_)) (broadcastInDim S32x127x2x1 ![] bcast_S_S32x127x2x1 (constant S_ .f32 0x42800000#32))) (broadcastInDim S32x127x2x1 ![] bcast_S_S32x127x2x1 (constant S_ .f32 0x358637BD#32)))))) (broadcastInDim S32x127x2x64 ![0, 1, 2, 3] bcast_S1x1x1x64_S32x127x2x64_0_1_2_3 (broadcastInDim S1x1x1x64 ![3] bcast_S64_S1x1x1x64_3 w))

theorem normT_apply (y : FVec Ideal S32x127x2x64 .f32) (w : FVec Ideal S64 .f32) (b : Fin 32) (n : Fin 127) (g : Fin 2) (d : Fin 64) :
    normT y w (ix4 b n g d) = knorm (fun d => y (ix4 b n g d)) (fun d => w (ix1 d)) d := by
  unfold normT knorm
  pointwise

/-- The first result at a row: the compressed keys after their norm, and a row of zeros after the last window. -/
theorem out0_apply (b : Fin 32) (n : Fin 128) (g : Fin 2) (d : Fin 64) : res_out0 m c (ix3 b n (gl g d))
    = if hn : n.val < 127 then knorm (comp (fun p e => m (c.tc.loc main_arg0) (ix3 b (⟨16 * n.val + p.val, by omega⟩ : Fin 2048) (gl g e))) (fun p e => m (c.tc.loc main_arg3) (ix2 p e))
        (fun q f => m (c.tc.loc main_arg4) (ix2 q f)) (fun f d => m (c.tc.loc main_arg5) (ix2 f d))) (fun d => m (c.tc.loc main_arg2) (ix1 d)) d else 0 := by
  have e : res_out0 m c = truncf (F := Ideal) .bf16 (pad S32x128x128 ![0, 0, 0] ![0, 1, 0] ![0, 0, 0] (shapeCast S32x127x128
    (normT (compT (m (c.tc.loc main_arg0)) (m (c.tc.loc main_arg3)) (m (c.tc.loc main_arg4)) (m (c.tc.loc main_arg5))) (m (c.tc.loc main_arg2))) shapeCasts_S32x127x2x64_S32x127x128)
    (sitofp .f32 (constantI S_ 32 0#32)) pads_S32x127x128_S32x128x128_000_010_000 h_S_) bitsLt_bf16_f32 := rfl
  rw [e]
  clean_types
  pointwise
  by_cases hn : n.val < 127
  · rw [dif_pos ⟨hn, by omega⟩, dif_pos hn, normT_apply]
    simp only [compT_apply]
  · rw [dif_neg fun h => hn h.1, dif_neg hn]
    exact zero_word

end Cert.Reference3Ideal.RefValue

end
-- ==== Proof.Cmp.lean ====
/- The third call's results: the compressed keys and values, window by window. -/
module

public import proofs.«01_k».proof.Proof.Gen.Kernel3Ideal.Value
public import proofs.«01_k».proof.Proof.CmpRef
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel3Ideal.RefValue

open Cert.Kernel3Ideal Cert.Kernel3Ideal.Gen Idealize.ShloMosaic Idealize.ShloMosaic.TcCoe Idealize.SL.Sem
open Idealize.ShloMosaic.Pipeline (Dat)
open Cert.Reference3Ideal.RefValue (gl we pre act comp knorm)

/-- Entry `(r, g, e)` of a half window's block row. -/
abbrev be (r : Fin 16) (g : Fin 2) (e : Fin 64) : Fin 2048 := ⟨r.val * 128 + (g.val * 64 + e.val), by omega⟩

/-- Position `r` of the first or of the second half of a window. -/
abbrev hp (a : Fin 2) (r : Fin 16) : Fin 32 := ⟨a.val * 16 + r.val, by omega⟩

theorem sum_gl (f : Fin 128 → EReal) : ∑ l, f l = ∑ g : Fin 2, ∑ d : Fin 64, f (gl g d) := by
  rw [← Finset.sum_product', Finset.univ_product_univ]
  refine (Fintype.sum_equiv (finProdFinEquiv (m := 2) (n := 64)) _ _ fun x => ?_).symm
  congr 1
  apply Fin.ext
  simp [finProdFinEquiv, add_comm, mul_comm]

/-- A sum over the lanes of which only one group's lanes contribute. -/
theorem sum_grp (g : Fin 2) (f : Fin 128 → EReal) (hf : ∀ g' d, g' ≠ g → f (gl g' d) = 0) :
    ∑ l, f l = ∑ d : Fin 64, f (gl g d) := by
  rw [sum_gl, Finset.sum_eq_single g]
  · intro g' _ hne
    exact Finset.sum_eq_zero fun d _ => hf g' d hne
  · intro hh
    exact absurd (Finset.mem_univ g) hh

theorem sum_rows (f : Fin 2048 → EReal) : ∑ c, f c = ∑ r : Fin 16, ∑ l : Fin 128, f ⟨r.val * 128 + l.val, by omega⟩ := by
  rw [← Finset.sum_product', Finset.univ_product_univ]
  refine (Fintype.sum_equiv (finProdFinEquiv (m := 16) (n := 128)) _ _ fun x => ?_).symm
  congr 1
  apply Fin.ext
  simp [finProdFinEquiv, add_comm, mul_comm]

/-- A sum over a block row of which only one group's entries contribute. -/
theorem sum_blk (g : Fin 2) (f : Fin 2048 → EReal) (hf : ∀ r g' e, g' ≠ g → f (be r g' e) = 0) :
    ∑ c, f c = ∑ r : Fin 16, ∑ e : Fin 64, f (be r g e) := by
  rw [sum_rows]
  exact Finset.sum_congr rfl fun r _ => sum_grp g _ fun g' d hne => hf r g' d hne

/-- A sum over a window as the sums over its halves. -/
theorem sum_half (f : Fin 32 → EReal) : ∑ p, f p = ∑ r, f (hp 0 r) + ∑ r, f (hp 1 r) := by
  rw [show (∑ p, f p) = ∑ p : Fin (16 + 16), f p from rfl, Fin.sum_univ_add]
  congr 1

/-- The kernel's hidden unit before its activation is the window's: two half windows through the two halves of the weights. -/
theorem pre_eq (g : Fin 2) (f : Fin 64) (x : Fin 32 → Fin 64 → EReal) (pe : Fin 32 → Fin 64 → EReal) (w1 : Fin 2048 → Fin 64 → EReal)
    (x0 x1 p0 p1 w0 w1' : Fin 2048 → EReal)
    (hx0 : ∀ r e, x0 (be r g e) = x (hp 0 r) e) (hx1 : ∀ r e, x1 (be r g e) = x (hp 1 r) e)
    (hp0 : ∀ r g e, p0 (be r g e) = pe (hp 0 r) e) (hp1 : ∀ r g e, p1 (be r g e) = pe (hp 1 r) e)
    (hw0 : ∀ r g' e, w0 (be r g' e) = if g' = g then w1 (we (hp 0 r) e) f else 0)
    (hw1 : ∀ r g' e, w1' (be r g' e) = if g' = g then w1 (we (hp 1 r) e) f else 0) :
    ∑ c, (x0 c + p0 c) * w0 c + ∑ c, (x1 c + p1 c) * w1' c = pre x pe w1 f := by
  rw [sum_blk g, sum_blk g, pre, sum_half]
  · simp only [hx0, hx1, hp0, hp1, hw0, hw1, if_true]
  · intro r g' e hne
    rw [hw1, if_neg hne, mul_zero]
  · intro r g' e hne
    rw [hw0, if_neg hne, mul_zero]

/-- A group's mean square as the kernel takes it. -/
theorem grp_mean (g : Fin 2) (f : Fin 128 → EReal) (w : Fin 128 → EReal) (hw : ∀ g' e, w (gl g' e) = if g' = g then Ideal.ofBits .f32 0x3C800000#32 else 0) :
    ∑ x, f x * f x * w x = Ideal.div (∑ e : Fin 64, f (gl g e) * f (gl g e)) (Ideal.ofBits .f32 0x42800000#32) := by
  rw [sum_grp g]
  · simp only [hw, if_true]
    rw [Cert.KernelIdeal.RefValue.sum_times _ (fun e => f (gl g e) * f (gl g e)) fun e => Cert.KernelIdeal.RefValue.sq_nonneg' _]
    rw [Cert.KernelIdeal.RefValue.c64, Cert.KernelIdeal.RefValue.c64th, Ideal.div, if_neg (by norm_num), ← EReal.coe_inv]
    norm_num
  · intro h' e hne
    rw [hw, if_neg hne, mul_zero]

/-- Row `n`'s hidden unit on lane `l`, before its activation. -/
def preK (x : Vec Ideal S1x128x2048 .bf16) (p0 : Vec Ideal S1x2048 .f32) (w0 : Vec Ideal S1x2048x128 .bf16) (p1 : Vec Ideal S1x2048 .f32) (w1 : Vec Ideal S1x2048x128 .bf16)
    (n n' : Fin 128) (l : Fin 128) : EReal :=
  ∑ c : Fin 2048, (x (ix3 0 n c) + p0 (ix2 0 c)) * w0 (ix3 0 c l) + ∑ c : Fin 2048, (x (ix3 0 n' c) + p1 (ix2 0 c)) * w1 (ix3 0 c l)

theorem pay6_apply (x : Vec Ideal S1x128x2048 .bf16) (p0 : Vec Ideal S1x2048 .f32) (w0 : Vec Ideal S1x2048x128 .bf16) (p1 : Vec Ideal S1x2048 .f32) (w1 : Vec Ideal S1x2048x128 .bf16)
    (n : Fin 127) (l : Fin 128) :
    k0_pay6 x p0 w0 p1 w1 (ix2 ⟨n.val, by omega⟩ l) = act (preK x p0 w0 p1 w1 ⟨n.val, by omega⟩ ⟨n.val + 1, by omega⟩ l) := by
  unfold act preK
  pointwise [k0_pay6]
  have h : (n.val + 128 - 127) % 128 = n.val + 1 := by omega
  simp only [h]

theorem mask (n l : Fin 128) : k0_pay2 (ix2 n l) = if n.val < 127 then 1#1 else 0#1 := by
  pointwise [k0_pay2]
  revert n
  decide +kernel

theorem pay3_apply (x : Vec Ideal S1x128x2048 .bf16) (p0 : Vec Ideal S1x2048 .f32) (w0 : Vec Ideal S1x2048x128 .bf16) (p1 : Vec Ideal S1x2048 .f32) (w1 : Vec Ideal S1x2048x128 .bf16)
    (w2 : Vec Ideal S128x128 .bf16) (n : Fin 128) (l : Fin 128) :
    k0_pay3 x p0 w0 p1 w1 w2 (ix2 n l) = ∑ k : Fin 128, k0_pay6 x p0 w0 p1 w1 (ix2 n k) * w2 (ix2 k l) := by
  have e : k0_pay3 x p0 w0 p1 w1 w2 = matmul (F := Ideal) dot_S128x128_S128x128_S128x128_1_0_0_1_n_n none (truncf .bf16 (k0_pay6 x p0 w0 p1 w1) bitsLt_bf16_f32)
    (shapeCast S128x128 w2 shapeCasts_S128x128_S128x128) (constant S128x128 .f32 0x00000000#32) := rfl
  rw [e]
  pointwise

theorem pay1_apply (v : FVec Ideal S128x128 .f32) (w2 : Vec Ideal S128x128 .bf16) (n l : Fin 128) :
    k0_pay1 k0_pay2 v w2 (ix3 0 n l) = if n.val < 127 then ∑ k : Fin 128, v (ix2 n k) * w2 (ix2 k l) else 0 := by
  pointwise [k0_pay1]
  rw [mask]
  split_ifs <;> rfl

theorem pay4_apply (x : Vec Ideal S1x128x2048 .bf16) (p0 : Vec Ideal S1x2048 .f32) (w0 : Vec Ideal S1x2048x128 .bf16) (p1 : Vec Ideal S1x2048 .f32) (w1 : Vec Ideal S1x2048x128 .bf16)
    (w2 bd : Vec Ideal S128x128 .bf16) (n : Fin 128) (l : Fin 128) :
    k0_pay4 x p0 w0 p1 w1 w2 bd (ix2 n l) = ∑ k : Fin 128, k0_pay3 x p0 w0 p1 w1 w2 (ix2 n k) * k0_pay3 x p0 w0 p1 w1 w2 (ix2 n k) * bd (ix2 k l) := by
  pointwise [k0_pay4]

theorem pay5_apply (y z : FVec Ideal S128x128 .f32) (g : Vec Ideal S1x128 .f32) (n l : Fin 128) :
    k0_pay5 k0_pay2 y z (Scalar.ofBits .f32 0x358637BD#32) g (ix3 0 n l)
      = if n.val < 127 then y (ix2 n l) * Ideal.rsqrt (z (ix2 n l) + Ideal.ofBits .f32 0x358637BD#32) * g (ix2 0 l) else 0 := by
  pointwise [k0_pay5]
  rw [mask]
  split_ifs <;> rfl

variable (m : (ℓ : Loc nD τ sig) → Buf (Elt Ideal) ℓ)

theorem idx : ∀ t : Fin cfg0.N, win0_0.index t = ![t.val, 0, 0] ∧ win0_1.index t = ![t.val, 0, 0] ∧ win0_2.index t = ![0, 0]
    ∧ win0_3.index t = ![0, 0] ∧ win0_4.index t = ![0, 0, 0] ∧ win0_5.index t = ![0, 0, 0] ∧ win0_6.index t = ![0, 0]
    ∧ win0_7.index t = ![0, 0] ∧ win0_8.index t = ![0, 0] ∧ win0_9.index t = ![0, 0] ∧ win0_10.index t = ![t.val, 0, 0] ∧ win0_11.index t = ![t.val, 0, 0] :=
  (by decide +kernel : ∀ t : Fin grid0.N, _)

end Cert.Kernel3Ideal.RefValue

end
-- ==== Proof.CmpBlk.lean ====
/- The third call's blocks. -/
module

public import proofs.«01_k».proof.Proof.Cmp
public import Idealize.ShloMosaic.Lib.Tactic.CleanTypes

@[expose] public section

set_option maxRecDepth 16384
noncomputable section

namespace Cert.Kernel3Ideal.RefValue

open Cert.Kernel3Ideal Cert.Kernel3Ideal.Gen Idealize.ShloMosaic Idealize.ShloMosaic.TcCoe Idealize.SL.Sem
open Idealize.ShloMosaic.Pipeline (Dat)
open Cert.Reference3Ideal.RefValue (gl we pre act comp knorm)

variable (m : (ℓ : Loc nD τ sig) → Buf (Elt Ideal) ℓ)

theorem blk0 (c : Dev nD) (t : Fin cfg0.N) (n : Fin 128) (k : Fin 2048) :
    iblk m c 0 t (ix3 0 n k) = V m c main_v43 (ix3 (⟨t.val, t.isLt⟩ : Fin 32) n k) := by
  have ht : t.val < 32 := t.isLt
  have e := idx t
  blk_simp [iblk, e]
  refine congrArg (V m c main_v43) ?_
  blk_ext [e]

theorem blk1 (c : Dev nD) (t : Fin cfg0.N) (n : Fin 128) (k : Fin 2048) :
    iblk m c 1 t (ix3 0 n k) = V m c main_v44 (ix3 (⟨t.val, t.isLt⟩ : Fin 32) n k) := by
  have ht : t.val < 32 := t.isLt
  have e := idx t
  blk_simp [iblk, e]
  refine congrArg (V m c main_v44) ?_
  blk_ext [e]

theorem blk2 (c : Dev nD) (t : Fin cfg0.N) (a : Fin 2) (k : Fin 2048) :
    iblk m c 2 t (ix2 a k) = V m c main_v20 (ix2 a k) := by
  have ht : t.val < 32 := t.isLt
  have e := idx t
  blk_simp [iblk, e]
  refine congrArg (V m c main_v20) ?_
  blk_ext [e]

theorem blk3 (c : Dev nD) (t : Fin cfg0.N) (a : Fin 2) (k : Fin 2048) :
    iblk m c 3 t (ix2 a k) = V m c main_v39 (ix2 a k) := by
  have ht : t.val < 32 := t.isLt
  have e := idx t
  blk_simp [iblk, e]
  refine congrArg (V m c main_v39) ?_
  blk_ext [e]

theorem blk4 (c : Dev nD) (t : Fin cfg0.N) (a : Fin 2) (k : Fin 2048) (l : Fin 128) :
    iblk m c 4 t (ix3 a k l) = V m c main_v22 (ix3 a k l) := by
  have ht : t.val < 32 := t.isLt
  have e := idx t
  blk_simp [iblk, e]
  refine congrArg (V m c main_v22) ?_
  blk_ext [e]

theorem blk5 (c : Dev nD) (t : Fin cfg0.N) (a : Fin 2) (k : Fin 2048) (l : Fin 128) :
    iblk m c 5 t (ix3 a k l) = V m c main_v41 (ix3 a k l) := by
  have ht : t.val < 32 := t.isLt
  have e := idx t
  blk_simp [iblk, e]
  refine congrArg (V m c main_v41) ?_
  blk_ext [e]

theorem blk6 (c : Dev nD) (t : Fin cfg0.N) (k l : Fin 128) :
    iblk m c 6 t (ix2 k l) = V m c main_v23 (ix2 k l) := by
  have ht : t.val < 32 := t.isLt
  have e := idx t
  blk_simp [iblk, e]
  refine congrArg (V m c main_v23) ?_
  blk_ext [e]

theorem blk7 (c : Dev nD) (t : Fin cfg0.N) (k l : Fin 128) :
    iblk m c 7 t (ix2 k l) = V m c main_v42 (ix2 k l) := by
  have ht : t.val < 32 := t.isLt
  have e := idx t
  blk_simp [iblk, e]
  refine congrArg (V m c main_v42) ?_
  blk_ext [e]

theorem blk8 (c : Dev nD) (t : Fin cfg0.N) (l : Fin 128) :
    iblk m c 8 t (ix2 0 l) = V m c main_v4 (ix2 0 l) := by
  have ht : t.val < 32 := t.isLt
  have e := idx t
  blk_simp [iblk, e]
  refine congrArg (V m c main_v4) ?_
  blk_ext [e]

theorem blk9 (c : Dev nD) (t : Fin cfg0.N) (k l : Fin 128) :
    iblk m c 9 t (ix2 k l) = V m c main_v0 (ix2 k l) := by
  have ht : t.val < 32 := t.isLt
  have e := idx t
  blk_simp [iblk, e]
  refine congrArg (V m c main_v0) ?_
  blk_ext [e]

theorem ld1 (x : Vec Ideal S2x2048 .f32) (k : Fin 2048) : View.ld x r0_1 (ix2 0 k) = x (ix2 0 k) := by
  pointwise [r0_1]

theorem ld3 (x : Vec Ideal S2x2048 .f32) (k : Fin 2048) : View.ld x r0_3 (ix2 0 k) = x (ix2 1 k) := by
  pointwise [r0_3]

theorem ld2 (x : Vec Ideal S2x2048x128 .bf16) (k : Fin 2048) (l : Fin 128) : View.ld x r0_2 (ix3 0 k l) = x (ix3 0 k l) := by
  pointwise [r0_2]

theorem ld4 (x : Vec Ideal S2x2048x128 .bf16) (k : Fin 2048) (l : Fin 128) : View.ld x r0_4 (ix3 0 k l) = x (ix3 1 k l) := by
  pointwise [r0_4]

/-- The compressed row that a group of a row of a block gives. -/
theorem comp_of (x : Vec Ideal S1x128x2048 .bf16) (p : Vec Ideal S2x2048 .f32) (w : Vec Ideal S2x2048x128 .bf16) (w2 : Vec Ideal S128x128 .bf16)
    (X : Fin 32 → Fin 64 → EReal) (PE : Fin 32 → Fin 64 → EReal) (W1 : Fin 2048 → Fin 64 → EReal) (W2 : Fin 64 → Fin 64 → EReal) (n : Fin 127) (g : Fin 2) (d : Fin 64)
    (hx0 : ∀ r e, x (ix3 0 ⟨n.val, by omega⟩ (be r g e)) = X (hp 0 r) e) (hx1 : ∀ r e, x (ix3 0 ⟨n.val + 1, by omega⟩ (be r g e)) = X (hp 1 r) e)
    (hpe : ∀ a r g e, p (ix2 a (be r g e)) = PE (hp a r) e)
    (hw1 : ∀ a r g' e g f, w (ix3 a (be r g' e) (gl g f)) = if g' = g then W1 (we (hp a r) e) f else 0)
    (hw2 : ∀ g' e g f, w2 (ix2 (gl g' e) (gl g f)) = if g' = g then W2 e f else 0) :
    ∑ k : Fin 128, k0_pay6 x (View.ld p r0_1) (View.ld w r0_2) (View.ld p r0_3) (View.ld w r0_4) (ix2 ⟨n.val, by omega⟩ k) * w2 (ix2 k (gl g d)) = comp X PE W1 W2 d := by
  rw [sum_grp g]
  · unfold comp
    refine Finset.sum_congr rfl fun f _ => ?_
    rw [pay6_apply, hw2, if_pos rfl, preK]
    rw [pre_eq g f X PE W1 _ _ _ _ _ _ hx0 hx1 (fun r g e => (ld1 p _).trans (hpe 0 r g e)) (fun r g e => (ld3 p _).trans (hpe 1 r g e))
      (fun r g' e => (ld2 w _ _).trans (hw1 0 r g' e g f)) fun r g' e => (ld4 w _ _).trans (hw1 1 r g' e g f)]
  · intro g' e hne
    rw [hw2, if_neg hne, mul_zero]

end Cert.Kernel3Ideal.RefValue

end
-- ==== Proof.CmpLit.lean ====
/- The third call's block-diagonal table: 1/64 inside a group's block, zero outside. -/
module

public import proofs.«01_k».proof.Kernel3Ideal

@[expose] public section

set_option maxRecDepth 65536
noncomputable section

namespace Cert.Kernel3Ideal.RefValue

open Cert.Kernel3Ideal Idealize.ShloMosaic

theorem lit0_all : ∀ a b : Fin 128, lit0t (a.val * 128 + b.val) = if a.val / 64 = b.val / 64 then 0x3C800000#32 else 0#32 := by
  decide +kernel

theorem lit0_eq (a b : Fin 128) (h : a.val * 128 + b.val < 16384) :
    lit0 ⟨a.val * 128 + b.val, h⟩ = if a.val / 64 = b.val / 64 then 0x3C800000#32 else 0#32 := lit0_all a b

end Cert.Kernel3Ideal.RefValue

end
-- ==== Proof.CmpTabs.lean ====
/- What the third call's arrays hold when the grid begins. -/
module

public import proofs.«01_k».proof.Proof.Cmp
public import proofs.«01_k».proof.Proof.CmpLit
public import Idealize.ShloMosaic.Lib.Tactic.CleanTypes

@[expose] public section

set_option maxRecDepth 16384
noncomputable section

namespace Cert.Kernel3Ideal.RefValue

open Cert.Kernel3Ideal Cert.Kernel3Ideal.Gen Idealize.ShloMosaic Idealize.ShloMosaic.TcCoe Idealize.SL.Sem
open Cert.Reference3Ideal.RefValue (gl we pre act comp knorm)

variable (m : (ℓ : Loc nD τ sig) → Buf (Elt Ideal) ℓ)

theorem be_row (r : Fin 16) (g : Fin 2) (e : Fin 64) : (r.val * 128 + (g.val * 64 + e.val)) / 128 = r.val := by omega

theorem be_lane (r : Fin 16) (g : Fin 2) (e : Fin 64) : (r.val * 128 + (g.val * 64 + e.val)) % 128 = g.val * 64 + e.val := by omega

theorem be_dim (r : Fin 16) (g : Fin 2) (e : Fin 64) : (r.val * 128 + (g.val * 64 + e.val)) % 64 = e.val := by omega

theorem be_head (r : Fin 16) (g : Fin 2) (e : Fin 64) : (r.val * 128 + (g.val * 64 + e.val)) / 64 % 2 = g.val := by omega

theorem gl_head (g : Fin 2) (e : Fin 64) : (g.val * 64 + e.val) / 64 = g.val := by omega

theorem gl_dim (g : Fin 2) (e : Fin 64) : (g.val * 64 + e.val) % 64 = e.val := by omega

theorem rm128 (a b : Fin 128) (h : a.val * 128 + b.val < 16384) : (S128x128.rowMajor (ix2 a b) : Fin 16384) = ⟨a.val * 128 + b.val, h⟩ :=
  Fin.ext (Shape.rowMajor_val_two (d := ![128, 128]) (ix2 a b))

/-- The entry of the identity over the two heads. -/
theorem eye_entry (g' g : Fin 2) :
    (FloatOps.uitofp (F := Ideal) FTy.f32 (IntOp.cmpi CmpIPredicate.eq (IntOp.addi (BitVec.ofNat 32 g'.val) 0#32) (BitVec.ofNat 32 g.val)) : EReal) = if g' = g then 1 else 0 := by
  have h : ∀ g' g : Fin 2, IntOp.cmpi CmpIPredicate.eq (IntOp.addi (BitVec.ofNat 32 g'.val) 0#32) (BitVec.ofNat 32 g.val) = if g' = g then 1#1 else 0#1 := by decide
  rw [h]
  by_cases e : g' = g
  · rw [if_pos e, if_pos e]
    change (((1#1 : BitVec 1).toNat : ℝ) : EReal) = 1
    simp
  · rw [if_neg e, if_neg e]
    change (((0#1 : BitVec 1).toNat : ℝ) : EReal) = 0
    simp

theorem ent_k (c : Dev nD) (b : Fin 32) (n : Fin 128) (r : Fin 16) (g : Fin 2) (e : Fin 64) :
    V m c main_v43 (ix3 b n (be r g e)) = m (c.tc.loc main_arg0) (ix3 b (⟨16 * n.val + r.val, by omega⟩ : Fin 2048) (gl g e)) := by
  simp only [V, hostOps0, hostOps0_1, hostOps0_2, hostOps0_3, hostOps0_4, List.flatten_cons, List.flatten_nil, List.append_nil, List.cons_append, List.nil_append]
  entry_read
  pointwise
  refine congrArg (m (c.tc.loc main_arg0)) ?_
  exact congrArg₂ (ix3 b) (Fin.ext (by change n.val * 16 + (r.val * 128 + (g.val * 64 + e.val)) / 128 = 16 * n.val + r.val; omega)) (Fin.ext (be_lane r g e))

theorem ent_pek (c : Dev nD) (a : Fin 2) (r : Fin 16) (g : Fin 2) (e : Fin 64) :
    V m c main_v20 (ix2 a (be r g e)) = m (c.tc.loc main_arg3) (ix2 (hp a r) e) := by
  simp only [V, hostOps0, hostOps0_1, hostOps0_2, hostOps0_3, hostOps0_4, List.flatten_cons, List.flatten_nil, List.append_nil, List.cons_append, List.nil_append]
  entry_read
  pointwise
  refine congrArg (m (c.tc.loc main_arg3)) ?_
  exact congrArg₂ ix2 (Fin.ext (by change a.val * 16 + (r.val * 128 + (g.val * 64 + e.val)) / 128 = a.val * 16 + r.val; omega)) (Fin.ext (be_dim r g e))

theorem ent_w2k (c : Dev nD) (g' : Fin 2) (e : Fin 64) (g : Fin 2) (f : Fin 64) :
    V m c main_v23 (ix2 (gl g' e) (gl g f)) = if g' = g then (m (c.tc.loc main_arg5) (ix2 e f) : EReal) else (0 : EReal) := by
  simp only [V, hostOps0, hostOps0_1, hostOps0_2, hostOps0_3, hostOps0_4, List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise
  have he : (FloatOps.uitofp (F := Ideal) FTy.f32 (IntOp.cmpi CmpIPredicate.eq (IntOp.addi (BitVec.ofNat 32 ((g'.val * 64 + e.val) / 64)) 0#32) (BitVec.ofNat 32 ((g.val * 64 + f.val) / 64))) : EReal) = if g' = g then 1 else 0 := by
    rw [gl_head g' e, gl_head g f]
    exact eye_entry g' g
  have hi : (ix2 (⟨(g'.val * 64 + e.val) % 64, by omega⟩ : Fin 64) (⟨(g.val * 64 + f.val) % 64, by omega⟩ : Fin 64) : S64x64.Idx) = ix2 e f :=
    congrArg₂ ix2 (Fin.ext (gl_dim g' e)) (Fin.ext (gl_dim g f))
  refine (congrArg₂ (fun (k : EReal) (i : S64x64.Idx) => k * (m (c.tc.loc main_arg5) i : EReal)) he hi).trans ?_
  by_cases e : g' = g
  · rw [if_pos e, if_pos e, one_mul]
  · rw [if_neg e, if_neg e, zero_mul]

theorem ent_w1k (c : Dev nD) (a : Fin 2) (r : Fin 16) (g' : Fin 2) (e : Fin 64) (g : Fin 2) (f : Fin 64) :
    V m c main_v22 (ix3 a (be r g' e) (gl g f)) = if g' = g then (m (c.tc.loc main_arg4) (ix2 (we (hp a r) e) f) : EReal) else (0 : EReal) := by
  simp only [V, hostOps0, hostOps0_1, hostOps0_2, hostOps0_3, hostOps0_4, List.flatten_cons, List.flatten_nil, List.append_nil, List.cons_append, List.nil_append]
  entry_read
  pointwise
  have he : (FloatOps.uitofp (F := Ideal) FTy.f32 (IntOp.cmpi CmpIPredicate.eq (IntOp.addi (BitVec.ofNat 32 ((r.val * 128 + (g'.val * 64 + e.val)) / 64 % 2)) 0#32) (BitVec.ofNat 32 ((g.val * 64 + f.val) / 64))) : EReal) = if g' = g then 1 else 0 := by
    rw [be_head r g' e, gl_head g f]
    exact eye_entry g' g
  have hi : (ix2 (⟨a.val * 1024 + (r.val * 128 + (g'.val * 64 + e.val)) / 128 * 64 + (r.val * 128 + (g'.val * 64 + e.val)) % 64, by omega⟩ : Fin 2048) (⟨(g.val * 64 + f.val) % 64, by omega⟩ : Fin 64) : S2048x64.Idx)
      = ix2 (we (hp a r) e) f :=
    congrArg₂ ix2 (Fin.ext (by change a.val * 1024 + (r.val * 128 + (g'.val * 64 + e.val)) / 128 * 64 + (r.val * 128 + (g'.val * 64 + e.val)) % 64 = (a.val * 16 + r.val) * 64 + e.val; omega)) (Fin.ext (gl_dim g f))
  refine (congrArg₂ (fun (i : S2048x64.Idx) (k : EReal) => HMul.hMul (α := EReal) (β := EReal) (γ := EReal) (m (c.tc.loc main_arg4) i) k) hi he).trans ?_
  by_cases e : g' = g
  · rw [if_pos e, if_pos e, mul_one]
  · rw [if_neg e, if_neg e, mul_zero]

theorem ent_v (c : Dev nD) (b : Fin 32) (n : Fin 128) (r : Fin 16) (g : Fin 2) (e : Fin 64) :
    V m c main_v44 (ix3 b n (be r g e)) = m (c.tc.loc main_arg1) (ix3 b (⟨16 * n.val + r.val, by omega⟩ : Fin 2048) (gl g e)) := by
  simp only [V, hostOps0, hostOps0_1, hostOps0_2, hostOps0_3, hostOps0_4, List.flatten_cons, List.flatten_nil, List.append_nil, List.cons_append, List.nil_append]
  entry_read
  pointwise
  refine congrArg (m (c.tc.loc main_arg1)) ?_
  exact congrArg₂ (ix3 b) (Fin.ext (by change n.val * 16 + (r.val * 128 + (g.val * 64 + e.val)) / 128 = 16 * n.val + r.val; omega)) (Fin.ext (be_lane r g e))

theorem ent_pev (c : Dev nD) (a : Fin 2) (r : Fin 16) (g : Fin 2) (e : Fin 64) :
    V m c main_v39 (ix2 a (be r g e)) = m (c.tc.loc main_arg6) (ix2 (hp a r) e) := by
  simp only [V, hostOps0, hostOps0_1, hostOps0_2, hostOps0_3, hostOps0_4, List.flatten_cons, List.flatten_nil, List.append_nil, List.cons_append, List.nil_append]
  entry_read
  pointwise
  refine congrArg (m (c.tc.loc main_arg6)) ?_
  exact congrArg₂ ix2 (Fin.ext (by change a.val * 16 + (r.val * 128 + (g.val * 64 + e.val)) / 128 = a.val * 16 + r.val; omega)) (Fin.ext (be_dim r g e))

theorem ent_w2v (c : Dev nD) (g' : Fin 2) (e : Fin 64) (g : Fin 2) (f : Fin 64) :
    V m c main_v42 (ix2 (gl g' e) (gl g f)) = if g' = g then (m (c.tc.loc main_arg8) (ix2 e f) : EReal) else (0 : EReal) := by
  simp only [V, hostOps0, hostOps0_1, hostOps0_2, hostOps0_3, hostOps0_4, List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise
  have he : (FloatOps.uitofp (F := Ideal) FTy.f32 (IntOp.cmpi CmpIPredicate.eq (IntOp.addi (BitVec.ofNat 32 ((g'.val * 64 + e.val) / 64)) 0#32) (BitVec.ofNat 32 ((g.val * 64 + f.val) / 64))) : EReal) = if g' = g then 1 else 0 := by
    rw [gl_head g' e, gl_head g f]
    exact eye_entry g' g
  have hi : (ix2 (⟨(g'.val * 64 + e.val) % 64, by omega⟩ : Fin 64) (⟨(g.val * 64 + f.val) % 64, by omega⟩ : Fin 64) : S64x64.Idx) = ix2 e f :=
    congrArg₂ ix2 (Fin.ext (gl_dim g' e)) (Fin.ext (gl_dim g f))
  refine (congrArg₂ (fun (k : EReal) (i : S64x64.Idx) => k * (m (c.tc.loc main_arg8) i : EReal)) he hi).trans ?_
  by_cases e : g' = g
  · rw [if_pos e, if_pos e, one_mul]
  · rw [if_neg e, if_neg e, zero_mul]

theorem ent_w1v (c : Dev nD) (a : Fin 2) (r : Fin 16) (g' : Fin 2) (e : Fin 64) (g : Fin 2) (f : Fin 64) :
    V m c main_v41 (ix3 a (be r g' e) (gl g f)) = if g' = g then (m (c.tc.loc main_arg7) (ix2 (we (hp a r) e) f) : EReal) else (0 : EReal) := by
  simp only [V, hostOps0, hostOps0_1, hostOps0_2, hostOps0_3, hostOps0_4, List.flatten_cons, List.flatten_nil, List.append_nil, List.cons_append, List.nil_append]
  entry_read
  pointwise
  have he : (FloatOps.uitofp (F := Ideal) FTy.f32 (IntOp.cmpi CmpIPredicate.eq (IntOp.addi (BitVec.ofNat 32 ((r.val * 128 + (g'.val * 64 + e.val)) / 64 % 2)) 0#32) (BitVec.ofNat 32 ((g.val * 64 + f.val) / 64))) : EReal) = if g' = g then 1 else 0 := by
    rw [be_head r g' e, gl_head g f]
    exact eye_entry g' g
  have hi : (ix2 (⟨a.val * 1024 + (r.val * 128 + (g'.val * 64 + e.val)) / 128 * 64 + (r.val * 128 + (g'.val * 64 + e.val)) % 64, by omega⟩ : Fin 2048) (⟨(g.val * 64 + f.val) % 64, by omega⟩ : Fin 64) : S2048x64.Idx)
      = ix2 (we (hp a r) e) f :=
    congrArg₂ ix2 (Fin.ext (by change a.val * 1024 + (r.val * 128 + (g'.val * 64 + e.val)) / 128 * 64 + (r.val * 128 + (g'.val * 64 + e.val)) % 64 = (a.val * 16 + r.val) * 64 + e.val; omega)) (Fin.ext (gl_dim g f))
  refine (congrArg₂ (fun (i : S2048x64.Idx) (k : EReal) => HMul.hMul (α := EReal) (β := EReal) (γ := EReal) (m (c.tc.loc main_arg7) i) k) hi he).trans ?_
  by_cases e : g' = g
  · rw [if_pos e, if_pos e, mul_one]
  · rw [if_neg e, if_neg e, mul_zero]

theorem ent_gain (c : Dev nD) (g : Fin 2) (f : Fin 64) :
    V m c main_v4 (ix2 0 (gl g f)) = m (c.tc.loc main_arg2) (ix1 f) := by
  simp only [V, hostOps0, hostOps0_1, hostOps0_2, hostOps0_3, hostOps0_4, List.flatten_cons, List.flatten_nil, List.append_nil, List.cons_append, List.nil_append]
  entry_read
  pointwise
  exact congrArg (fun i : Fin 64 => m (c.tc.loc main_arg2) (ix1 i)) (Fin.ext (gl_dim g f))

theorem ent_bd (c : Dev nD) (g' : Fin 2) (e : Fin 64) (g : Fin 2) (f : Fin 64) :
    V m c main_v0 (ix2 (gl g' e) (gl g f)) = if g' = g then Ideal.ofBits .f32 0x3C800000#32 else 0 := by
  simp only [V, hostOps0, hostOps0_1, hostOps0_2, hostOps0_3, hostOps0_4, List.flatten_cons, List.flatten_nil, List.append_nil, List.cons_append, List.nil_append]
  entry_read
  pointwise
  have hb : (gl g' e).val * 128 + (gl g f).val < 16384 := by
    have h1 := (gl g' e).isLt
    have h2 := (gl g f).isLt
    omega
  refine (congrArg (fun x => Ideal.ofBits FTy.f32 (lit0 x)) (rm128 (gl g' e) (gl g f) hb)).trans ?_
  rw [lit0_eq _ _ hb]
  change Ideal.ofBits FTy.f32 (if (g'.val * 64 + e.val) / 64 = (g.val * 64 + f.val) / 64 then _ else _) = _
  rw [gl_head, gl_head]
  by_cases e : g' = g
  · rw [if_pos (congrArg Fin.val e), if_pos e]
  · rw [if_neg fun e' => e (Fin.ext e'), if_neg e]
    pointwise

end Cert.Kernel3Ideal.RefValue

end
-- ==== Proof.CmpEnd.lean ====
/- The third call's two results are the reference's. -/
module

public import proofs.«01_k».proof.Proof.CmpBlk
public import proofs.«01_k».proof.Proof.CmpTabs

@[expose] public section

set_option maxRecDepth 16384
noncomputable section

namespace Cert.Kernel3Ideal.RefValue

open Cert.Kernel3Ideal Cert.Kernel3Ideal.Gen Idealize.ShloMosaic Idealize.ShloMosaic.TcCoe Idealize.SL.Sem
open Idealize.ShloMosaic.Pipeline (Dat)
open Cert.Reference3Ideal.RefValue (gl we pre act comp knorm)

variable (m : (ℓ : Loc nD τ sig) → Buf (Elt Ideal) ℓ)

theorem lane_of (l : Fin 128) : ∃ (g : Fin 2) (d : Fin 64), l = gl g d :=
  ⟨⟨l.val / 64, by omega⟩, ⟨l.val % 64, by omega⟩, Fin.ext (by simp only; omega)⟩

/-- The norm over a head's lanes from the sum over all lanes against the block-diagonal table. -/
theorem norm_of (g : Fin 2) (d : Fin 64) (Y : Fin 128 → EReal) (C : Fin 64 → EReal) (hY : ∀ d, Y (gl g d) = C d) (B : Fin 128 → EReal)
    (hB : ∀ g' e, B (gl g' e) = if g' = g then Ideal.ofBits .f32 0x3C800000#32 else 0) (G : EReal) (W : Fin 64 → EReal) (hG : G = W d) :
    Y (gl g d) * Ideal.rsqrt ((∑ k, Y k * Y k * B k) + Ideal.ofBits .f32 0x358637BD#32) * G = knorm C W d := by
  rw [grp_mean g Y B hB, hG, hY, knorm]
  simp only [hY]

/-- The keys' compressed row from the blocks of a point. -/
theorem comp_k (c : Dev nD) (t : Fin cfg0.N) (n : Fin 127) (g : Fin 2) (d : Fin 64) :
    ∑ k : Fin 128, k0_pay6 (iblk m c 0 t) (View.ld (iblk m c 2 t) r0_1) (View.ld (iblk m c 4 t) r0_2) (View.ld (iblk m c 2 t) r0_3) (View.ld (iblk m c 4 t) r0_4) (ix2 ⟨n.val, by omega⟩ k)
        * iblk m c 6 t (ix2 k (gl g d))
      = comp (fun p e => m (c.tc.loc main_arg0) (ix3 (⟨t.val, t.isLt⟩ : Fin 32) (⟨16 * n.val + p.val, by omega⟩ : Fin 2048) (gl g e))) (fun p e => m (c.tc.loc main_arg3) (ix2 p e))
        (fun q f => m (c.tc.loc main_arg4) (ix2 q f)) (fun f d => m (c.tc.loc main_arg5) (ix2 f d)) d := by
  refine comp_of (iblk m c 0 t) (iblk m c 2 t) (iblk m c 4 t) (iblk m c 6 t) _ _ _ _ n g d ?_ ?_ ?_ ?_ ?_
  · intro r e
    refine (blk0 m c t _ _).trans ((ent_k m c _ _ r g e).trans ?_)
    exact congrArg (fun i : Fin 2048 => m (c.tc.loc main_arg0) (ix3 (⟨t.val, t.isLt⟩ : Fin 32) i (gl g e))) (Fin.ext (by change 16 * n.val + r.val = 16 * n.val + (0 * 16 + r.val); omega))
  · intro r e
    refine (blk0 m c t _ _).trans ((ent_k m c _ _ r g e).trans ?_)
    exact congrArg (fun i : Fin 2048 => m (c.tc.loc main_arg0) (ix3 (⟨t.val, t.isLt⟩ : Fin 32) i (gl g e))) (Fin.ext (by change 16 * (n.val + 1) + r.val = 16 * n.val + (1 * 16 + r.val); omega))
  · exact fun a r g e => (blk2 m c t _ _).trans (ent_pek m c a r g e)
  · exact fun a r g' e g f => (blk4 m c t _ _ _).trans (ent_w1k m c a r g' e g f)
  · exact fun g' e g f => (blk6 m c t _ _).trans (ent_w2k m c g' e g f)

/-- The values' compressed row from the blocks of a point. -/
theorem comp_v (c : Dev nD) (t : Fin cfg0.N) (n : Fin 127) (g : Fin 2) (d : Fin 64) :
    ∑ k : Fin 128, k0_pay6 (iblk m c 1 t) (View.ld (iblk m c 3 t) r0_1) (View.ld (iblk m c 5 t) r0_2) (View.ld (iblk m c 3 t) r0_3) (View.ld (iblk m c 5 t) r0_4) (ix2 ⟨n.val, by omega⟩ k)
        * iblk m c 7 t (ix2 k (gl g d))
      = comp (fun p e => m (c.tc.loc main_arg1) (ix3 (⟨t.val, t.isLt⟩ : Fin 32) (⟨16 * n.val + p.val, by omega⟩ : Fin 2048) (gl g e))) (fun p e => m (c.tc.loc main_arg6) (ix2 p e))
        (fun q f => m (c.tc.loc main_arg7) (ix2 q f)) (fun f d => m (c.tc.loc main_arg8) (ix2 f d)) d := by
  refine comp_of (iblk m c 1 t) (iblk m c 3 t) (iblk m c 5 t) (iblk m c 7 t) _ _ _ _ n g d ?_ ?_ ?_ ?_ ?_
  · intro r e
    refine (blk1 m c t _ _).trans ((ent_v m c _ _ r g e).trans ?_)
    exact congrArg (fun i : Fin 2048 => m (c.tc.loc main_arg1) (ix3 (⟨t.val, t.isLt⟩ : Fin 32) i (gl g e))) (Fin.ext (by change 16 * n.val + r.val = 16 * n.val + (0 * 16 + r.val); omega))
  · intro r e
    refine (blk1 m c t _ _).trans ((ent_v m c _ _ r g e).trans ?_)
    exact congrArg (fun i : Fin 2048 => m (c.tc.loc main_arg1) (ix3 (⟨t.val, t.isLt⟩ : Fin 32) i (gl g e))) (Fin.ext (by change 16 * (n.val + 1) + r.val = 16 * n.val + (1 * 16 + r.val); omega))
  · exact fun a r g e => (blk3 m c t _ _).trans (ent_pev m c a r g e)
  · exact fun a r g' e g f => (blk5 m c t _ _ _).trans (ent_w1v m c a r g' e g f)
  · exact fun g' e g f => (blk7 m c t _ _).trans (ent_w2v m c g' e g f)

variable (c : Dev nD) (m' : (ℓ : Loc Cert.Reference3Ideal.nD Cert.Reference3Ideal.τ Cert.Reference3Ideal.sig) → Buf (Elt Ideal) ℓ)
    (h0 : m' (c.tc.loc Cert.Reference3Ideal.main_arg0) = m (c.tc.loc main_arg0))
    (h1 : m' (c.tc.loc Cert.Reference3Ideal.main_arg1) = m (c.tc.loc main_arg1))
    (h2 : m' (c.tc.loc Cert.Reference3Ideal.main_arg2) = m (c.tc.loc main_arg2))
    (h3 : m' (c.tc.loc Cert.Reference3Ideal.main_arg3) = m (c.tc.loc main_arg3))
    (h4 : m' (c.tc.loc Cert.Reference3Ideal.main_arg4) = m (c.tc.loc main_arg4))
    (h5 : m' (c.tc.loc Cert.Reference3Ideal.main_arg5) = m (c.tc.loc main_arg5))
    (h6 : m' (c.tc.loc Cert.Reference3Ideal.main_arg6) = m (c.tc.loc main_arg6))
    (h7 : m' (c.tc.loc Cert.Reference3Ideal.main_arg7) = m (c.tc.loc main_arg7))
    (h8 : m' (c.tc.loc Cert.Reference3Ideal.main_arg8) = m (c.tc.loc main_arg8))

include h1 h6 h7 h8 in
/-- The compressed values. -/
theorem final11 : (dats m 0 c).arrAt 11 (cfgs 0).N = Cert.Reference3Ideal.Value.res_out1 m' c := by
  refine (dats m 0 c).arrAt_eq_of_covers 11 _ (by decide +kernel) fun t _ y => ?_
  blk_simp
  rw [after0_11]
  unfold_out out0_11
  frame_out
  obtain ⟨e0, e1, e2, e3, e4, e5, e6, e7, e8, e9, e10, e11⟩ := idx t
  have ht : t.val < 32 := t.isLt
  obtain ⟨a, n, l, rfl⟩ : ∃ (a : Fin 1) (n : Fin 128) (l : Fin 128), y = ix3 a n l := ⟨y 0, y 1, y 2, eq_ix3 y⟩
  obtain rfl : a = 0 := Subsingleton.elim _ _
  obtain ⟨g, d, rfl⟩ := lane_of l
  have he : ((View.whole main_v45_1).slice (win0_11.rect t)).emb (ix3 0 n (gl g d)) = ix3 (⟨t.val, t.isLt⟩ : Fin 32) n (gl g d) := by
    blk_ext [e11]
  refine (pay1_apply _ _ n (gl g d)).trans (Eq.trans ?_ ((congrArg _ he).trans (Cert.Reference3Ideal.RefValue.out1_apply m' c _ n g d)).symm)
  by_cases hn : n.val < 127
  · rw [if_pos hn, dif_pos hn, h1, h6, h7, h8]
    exact comp_v m c t ⟨n.val, hn⟩ g d
  · rw [if_neg hn, dif_neg hn]

include h0 h2 h3 h4 h5 in
/-- The compressed keys after their norm. -/
theorem final10 : (dats m 0 c).arrAt 10 (cfgs 0).N = Cert.Reference3Ideal.Value.res_out0 m' c := by
  refine (dats m 0 c).arrAt_eq_of_covers 10 _ (by decide +kernel) fun t _ y => ?_
  blk_simp
  rw [after0_10]
  unfold_out out0_10
  frame_out
  obtain ⟨e0, e1, e2, e3, e4, e5, e6, e7, e8, e9, e10, e11⟩ := idx t
  have ht : t.val < 32 := t.isLt
  obtain ⟨a, n, l, rfl⟩ : ∃ (a : Fin 1) (n : Fin 128) (l : Fin 128), y = ix3 a n l := ⟨y 0, y 1, y 2, eq_ix3 y⟩
  obtain rfl : a = 0 := Subsingleton.elim _ _
  obtain ⟨g, d, rfl⟩ := lane_of l
  have he : ((View.whole main_v45_0).slice (win0_10.rect t)).emb (ix3 0 n (gl g d)) = ix3 (⟨t.val, t.isLt⟩ : Fin 32) n (gl g d) := by
    blk_ext [e10]
  refine (pay5_apply _ _ _ n (gl g d)).trans (Eq.trans ?_ ((congrArg _ he).trans (Cert.Reference3Ideal.RefValue.out0_apply m' c _ n g d)).symm)
  by_cases hn : n.val < 127
  · have hk : ∀ d, k0_pay3 (iblk m c 0 t) (View.ld (iblk m c 2 t) r0_1) (View.ld (iblk m c 4 t) r0_2) (View.ld (iblk m c 2 t) r0_3) (View.ld (iblk m c 4 t) r0_4) (iblk m c 6 t) (ix2 n (gl g d))
        = comp (fun p e => m (c.tc.loc main_arg0) (ix3 (⟨t.val, t.isLt⟩ : Fin 32) (⟨16 * n.val + p.val, by omega⟩ : Fin 2048) (gl g e))) (fun p e => m (c.tc.loc main_arg3) (ix2 p e))
          (fun q f => m (c.tc.loc main_arg4) (ix2 q f)) (fun f d => m (c.tc.loc main_arg5) (ix2 f d)) d :=
      fun d => (pay3_apply _ _ _ _ _ _ n (gl g d)).trans (comp_k m c t ⟨n.val, hn⟩ g d)
    rw [if_pos hn, dif_pos hn, h0, h2, h3, h4, h5, pay4_apply]
    exact norm_of g d (fun k => k0_pay3 (iblk m c 0 t) (View.ld (iblk m c 2 t) r0_1) (View.ld (iblk m c 4 t) r0_2) (View.ld (iblk m c 2 t) r0_3) (View.ld (iblk m c 4 t) r0_4) (iblk m c 6 t) (ix2 n k)) _ hk
      (fun k => iblk m c 9 t (ix2 k (gl g d))) (fun g' e => (blk9 m c t _ _).trans (ent_bd m c g' e g d)) _ _ ((blk8 m c t _).trans (ent_gain m c g d))
  · rw [if_neg hn, dif_neg hn]

end Cert.Kernel3Ideal.RefValue

end
-- ==== Proof.Claim3.lean ====
/-
The value claim about the compressed keys and values, put together from the two runs.
-/
module

public import proofs.«01_k».proof.Proof.CmpEnd
public import proofs.«01_k».proof.Defs
public import proofs.«01_k».proof.Proof.Gen.Kernel3Ideal
public import proofs.«01_k».proof.Proof.Gen.Reference3Ideal

@[expose] public section

noncomputable section

namespace Cert.Proof

open Idealize.ShloMosaic Idealize.SL.Sem

/-- From equal arguments the kernel and the reference end with the same two results. -/
theorem algebraic3 : Cert.algebraic_Kernel3Ideal_Reference3Ideal := by
  intro m g m' g' _ hag
  refine ⟨fun c => Cert.Reference3Ideal.Value.res_out0 m' c, fun c => Cert.Reference3Ideal.Value.res_out1 m' c, ?_, Cert.Reference3Ideal.Value.run m' g'⟩
  refine (θ_run Cert.Kernel3Ideal.defs _ _).mono (fun _ h c => ⟨(h c).1.trans ?_, (h c).2.1.trans ?_, (h c).2.2⟩)
    (Cert.Kernel3Ideal.Value.run_blocks m g)
  · obtain ⟨h0, h1, h2, h3, h4, h5, h6, h7, h8⟩ := hag c
    exact Cert.Kernel3Ideal.RefValue.final10 m c m' h0 h2 h3 h4 h5
  · obtain ⟨h0, h1, h2, h3, h4, h5, h6, h7, h8⟩ := hag c
    exact Cert.Kernel3Ideal.RefValue.final11 m c m' h1 h6 h7 h8

end Cert.Proof

end
-- ==== Proof.lean ====
/-
The proof of `Cert.Claim`: the frames of the three calls and of the three references, and what the calls compute.
The frames of the kernels are generated, those of the references are read from their generated runs.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Claim2
public import proofs.«01_k».proof.Proof.Claim1
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Claim3
public import Idealize.ShloMosaic.Adequacy
public import Idealize.ShloMosaic.Init

@[expose] public section

noncomputable section

namespace Cert.Proof

open Idealize.ShloMosaic Idealize.SL.Sem

/-- The first reference leaves its arguments, and it has no counter. -/
theorem frame_reference : Cert.quiescent_ReferenceIdeal := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

/-- The second reference leaves its arguments, and it has no counter. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The third reference leaves its arguments, and it has no counter. -/
theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    fun m g _ => Cert.Kernel.Gen.frame m g, fun m g _ => Cert.KernelIdeal.Gen.frame m g, frame_reference,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    trivial, algebraic1, trivial, algebraic2, trivial, algebraic3⟩

end Cert.Proof

end
